-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![1024, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  bcast_S_S128x8 : S_.BroadcastsInDim S128x8 (![] : Fin 0 → Fin S128x8.rank)
  bcast_S_S256x2 : S_.BroadcastsInDim S256x2 (![] : Fin 0 → Fin S256x2.rank)

variable [Facts]

def fn {F : FTy → Type} [FloatOps F] (main_arg0 : FVec F S256x128 .bf16) (main_arg1 : FVec F S128x8 .bf16) (main_arg2 : IVec S256x2 32) (main_arg3 : FVec F S2x128x256 .bf16) : IVec S256x128 1 × IVec S128x8 1 × IVec S256x2 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_v3 : FVec F S128x8 .bf16 := Host.absf main_arg1
  let main_cst_0 : FVec F S_ .bf16 := constant S_ .bf16 0x7F80#16
  let main_v4 : FVec F S128x8 .bf16 := broadcastInDim S128x8 ![] bcast_S_S128x8 main_cst_0
  let main_v5 : IVec S128x8 1 := cmpf .olt main_v3 main_v4
  let main_c : IVec S_ 32 := constantI S_ 32 0#32
  let main_v6 : IVec S256x2 32 := broadcastInDim S256x2 ![] bcast_S_S256x2 main_c
  let main_v7 : IVec S256x2 1 := cmpi .sge main_arg2 main_v6
  let main_c_1 : IVec S_ 32 := constantI S_ 32 8#32
  let main_v8 : IVec S256x2 32 := broadcastInDim S256x2 ![] bcast_S_S256x2 main_c_1
  let main_v9 : IVec S256x2 1 := cmpi .slt main_arg2 main_v8
  let main_v10 : IVec S256x2 1 := andi main_v7 main_v9
  (main_v2, main_v5, main_v10)
-- ==== Pre_routed_ReferenceIdeal.lean ====
abbrev S1024x128 : Shape := ⟨2, ![1024, 128]⟩
abbrev S128x8 : Shape := ⟨2, ![128, 8]⟩
abbrev S1024x2 : Shape := ⟨2, ![1024, 2]⟩
abbrev S8x128x256 : Shape := ⟨3, ![8, 128, 256]⟩
abbrev S_ : Shape := ⟨0, ![]⟩

class Facts : Prop where
  bcast_S_S1024x128 : S_.BroadcastsInDim S1024x128 (![] : Fin 0 → Fin S1024x128.rank)
  bcast_S_S128x8 : S_.BroadcastsInDim S128x8 (![] : Fin 0 → Fin S128x8.rank)
  bcast_S_S1024x2 : S_.BroadcastsInDim S1024x2 (![] : Fin 0 → Fin S1024x2.rank)

variable [Facts]

def fn {F : FTy → Type} [FloatOps F] (main_arg0 : FVec F S1024x128 .bf16) (main_arg1 : FVec F S128x8 .bf16) (main_arg2 : IVec S1024x2 32) (main_arg3 : FVec F S8x128x256 .bf16) : IVec S1024x128 1 × IVec S128x8 1 × IVec S1024x2 1 :=
  let main_v0 : FVec F S1024x128 .bf16 := Host.absf main_arg0
  let main_cst : FVec F S_ .bf16 := constant S_ .bf16 0x7F80#16
  let main_v1 : FVec F S1024x128 .bf16 := broadcastInDim S1024x128 ![] bcast_S_S1024x128 main_cst
  let main_v2 : IVec S1024x128 1 := cmpf .olt main_v0 main_v1
  let main_v3 : FVec F S128x8 .bf16 := Host.absf main_arg1
  let main_cst_0 : FVec F S_ .bf16 := constant S_ .bf16 0x7F80#16
  let main_v4 : FVec F S128x8 .bf16 := broadcastInDim S128x8 ![] bcast_S_S128x8 main_cst_0
  let main_v5 : IVec S128x8 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 8#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  (main_v2, main_v5, main_v10)
-- ==== Kernel.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S256x256 : Shape := ⟨2, ![256, 256]⟩
abbrev S1024x256 : Shape := ⟨2, ![1024, 256]⟩
abbrev S3 : Shape := ⟨1, ![3]⟩
abbrev S_ : Shape := ⟨0, ![]⟩
abbrev S1 : Shape := ⟨1, ![1]⟩
abbrev S256x8 : Shape := ⟨2, ![256, 8]⟩
abbrev S256 : Shape := ⟨1, ![256]⟩
abbrev S256x1 : Shape := ⟨2, ![256, 1]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x8, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S1024x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v43 : BitVec 32 := Scalar.muli v2 c256_i32
  let v47 : Index := Scalar.indexCast v43
  let c0_29 : Index := 0#32
  ![v47.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v43 : BitVec 32 := Scalar.muli v2 c256_i32
  let c0_i32_42 : BitVec 32 := 0#32
  ![v43.toNat, 0]
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v51 : BitVec 32 := Scalar.addi v2 c2_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c1_i32_40 : BitVec 32 := 1#32
  let v62 : BitVec 32 := Scalar.muli v61 c1_i32_40
  let v63 : BitVec 32 := Scalar.addi c0_i32_41 v62
  v63.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v70 : BitVec 32 := Scalar.addi v2 c1_i32_44
  let c4_i32_45 : BitVec 32 := 4#32
  let c0_i32_46 : BitVec 32 := 0#32
  let v71 : BitVec 1 := Scalar.cmpi .eq c4_i32_45 c0_i32_46
  let c1_i32_47 : BitVec 32 := 1#32
  let v72 : BitVec 32 := Scalar.select v71 c1_i32_47 c4_i32_45
  let v73 : BitVec 32 := Scalar.remsi v70 v72
  let c0_i32_49 : BitVec 32 := 0#32
  let v75 : BitVec 1 := Scalar.cmpi .slt v73 c0_i32_49
  let c0_i32_50 : BitVec 32 := 0#32
  let v76 : BitVec 1 := Scalar.cmpi .slt v72 c0_i32_50
  let v77 : BitVec 1 := Scalar.xori v75 v76
  let c0_i32_48 : BitVec 32 := 0#32
  let v74 : BitVec 1 := Scalar.cmpi .ne v73 c0_i32_48
  let v78 : BitVec 1 := Scalar.andi v77 v74
  let v79 : BitVec 32 := Scalar.addi v73 v72
  let v80 : BitVec 32 := Scalar.select v78 v79 v73
  let c1_i32_53 : BitVec 32 := 1#32
  let v81 : BitVec 32 := Scalar.muli v80 c1_i32_53
  let v82 : BitVec 32 := Scalar.addi c0_i32_54 v81
  v82.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v89 : BitVec 32 := Scalar.addi v2 c3_i32_57
  let c4_i32_58 : BitVec 32 := 4#32
  let c0_i32_59 : BitVec 32 := 0#32
  let v90 : BitVec 1 := Scalar.cmpi .eq c4_i32_58 c0_i32_59
  let c1_i32_60 : BitVec 32 := 1#32
  let v91 : BitVec 32 := Scalar.select v90 c1_i32_60 c4_i32_58
  let v92 : BitVec 32 := Scalar.remsi v89 v91
  let c0_i32_62 : BitVec 32 := 0#32
  let v94 : BitVec 1 := Scalar.cmpi .slt v92 c0_i32_62
  let c0_i32_63 : BitVec 32 := 0#32
  let v95 : BitVec 1 := Scalar.cmpi .slt v91 c0_i32_63
  let v96 : BitVec 1 := Scalar.xori v94 v95
  let c0_i32_61 : BitVec 32 := 0#32
  let v93 : BitVec 1 := Scalar.cmpi .ne v92 c0_i32_61
  let v97 : BitVec 1 := Scalar.andi v96 v93
  let v98 : BitVec 32 := Scalar.addi v92 v91
  let v99 : BitVec 32 := Scalar.select v97 v98 v92
  let c1_i32_66 : BitVec 32 := 1#32
  let v100 : BitVec 32 := Scalar.muli v99 c1_i32_66
  let v101 : BitVec 32 := Scalar.addi c0_i32_67 v100
  v101.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x128 : Shape := ⟨2, ![1024, 128]⟩
abbrev S128x8 : Shape := ⟨2, ![128, 8]⟩
abbrev S1024x2 : Shape := ⟨2, ![1024, 2]⟩
abbrev S8x128x256 : Shape := ⟨3, ![8, 128, 256]⟩
abbrev S1024x8 : Shape := ⟨2, ![1024, 8]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1024x2x128x256 : Shape := ⟨4, ![1024, 2, 128, 256]⟩
abbrev S1024x2x256 : Shape := ⟨3, ![1024, 2, 256]⟩
abbrev S1024x1x256 : Shape := ⟨3, ![1024, 1, 256]⟩
abbrev S1024x256 : Shape := ⟨2, ![1024, 256]⟩

abbrev nBuf : Space → Nat
  | .hbm => 52
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S128x8, .bf16⟩
  | .hbm, ⟨2, _⟩ => ⟨S1024x2, .i32⟩
  | .hbm, ⟨3, _⟩ => ⟨S8x128x256, .bf16⟩
  | .hbm, ⟨4, _⟩ => ⟨S1024x128, .f32⟩
  | .hbm, ⟨5, _⟩ => ⟨S128x8, .f32⟩
  | .hbm, ⟨6, _⟩ => ⟨S1024x8, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x8, .f32⟩
  | .hbm, ⟨11, _⟩ => ⟨S1024x8, .f32⟩
  | .hbm, ⟨12, _⟩ => ⟨S1024x8, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x8, .f32⟩
  | .hbm, ⟨17, _⟩ => ⟨S1024x8, .f32⟩
  | .hbm, ⟨18, _⟩ => ⟨S_, .i32⟩
  | .hbm, ⟨19, _⟩ => ⟨S1024x2, .i32⟩
  | .hbm, ⟨20, _⟩ => ⟨S1024x2, .i1⟩
  | .hbm, ⟨21, _⟩ => ⟨S_, .i32⟩
  | .hbm, ⟨22, _⟩ => ⟨S1024x2, .i32⟩
  | .hbm, ⟨23, _⟩ => ⟨S1024x2, .i32⟩
  | .hbm, ⟨24, _⟩ => ⟨S1024x2, .i32⟩
  | .hbm, ⟨25, _⟩ => ⟨S1024x2x1, .i32⟩
  | .hbm, ⟨26, _⟩ => ⟨S1024x2, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S8x128x256, .f32⟩
  | .hbm, ⟨31, _⟩ => ⟨S_, .i32⟩
  | .hbm, ⟨32, _⟩ => ⟨S1024x2, .i32⟩
  | .hbm, ⟨33, _⟩ => ⟨S1024x2, .i1⟩
  | .hbm, ⟨34, _⟩ => ⟨S_, .i32⟩
  | .hbm, ⟨35, _⟩ => ⟨S1024x2, .i32⟩
  | .hbm, ⟨36, _⟩ => ⟨S1024x2, .i32⟩
  | .hbm, ⟨37, _⟩ => ⟨S1024x2, .i32⟩
  | .hbm, ⟨38, _⟩ => ⟨S1024x2x1, .i32⟩
  | .hbm, ⟨39, _⟩ => ⟨S1024x2x128x256, .f32⟩
  | .hbm, ⟨40, _⟩ => ⟨S1024x2x256, .f32⟩
  | .hbm, ⟨41, _⟩ => ⟨S1024x1, .f32⟩
  | .hbm, ⟨42, _⟩ => ⟨S1024x1x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x1, .f32⟩
  | .hbm, ⟨47, _⟩ => ⟨S1024x1x256, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S1024x256, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Protocol.lean ====
/-
# The gathering protocol

Four devices hold two experts' weights each.  Every device writes its own weights, recast as 256 rows, into its
quarter of the gathering buffer (1024 rows) and copies that quarter into the same rows of the three other devices'
gathering buffers.  Before a device copies into another one, that other one has told it, on the barrier semaphore,
that its buffer is free.

The three partners of a device are counted by `j : Fin 3`: partner `j` of device `c` is `hop j c`, which lies `j + 1`
places further around.  Partner `j.rev` of that device is `c` again.  Every device has seven semaphore cells:

* the barrier cell: the three partners raise it by one each; a raise hands over the raising device's rows that the
  waiting device is going to fill;
* three "sent" cells: the copy to partner `j` credits "sent" cell `j` of the source device when its rows have been
  read; the credit hands back the share of the source rows that the copy held;
* three "received" cells: the copy from the partner `hop j.rev c` credits "received" cell `j` of `c` when the rows have
  been written; the credit hands over those rows, now holding the source device's weights.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

set_option maxRecDepth 16384

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and one family of rounds whose duties are named by the partner's number. -/
abbrev Us : Type := UR sig nD τ × URounds (GSem nD τ sig) (Fin 3)

local notation "𝕄" => MT nD τ sig Unit (Elt F) ℕ Us ℕ

/-- Where the pipeline's ghost state sits, -/
abbrev EPipe : Emb (UR sig nD τ) (MT nD τ sig Unit (Elt F) ℕ Us ℕ) := embL
/-- and where the rounds' sits. -/
abbrev ERnd : Emb (URounds (GSem nD τ sig) (Fin 3)) (MT nD τ sig Unit (Elt F) ℕ Us ℕ) := embR

variable (m : (ℓ : Loc nD τ sig) → Buf (Elt F) ℓ)

/-! ## The partners -/

set_option backward.proofsInPublic true in
/-- Partner `j` of device `c`: the device `j + 1` places further around. -/
def hop (j : Fin 3) (c : Dev nD) : Dev nD := ⟨(c.val + j.val + 1) % 4, Nat.mod_lt _ (by decide)⟩

/-- Going `j + 1` places and then the rest of the way around comes back. -/
theorem hop_back (j : Fin 3) (c : Dev nD) : hop j.rev (hop j c) = c := by revert j c; decide
/-- The same with the two steps in the other order. -/
theorem hop_forth (j : Fin 3) (c : Dev nD) : hop j (hop j.rev c) = c := by revert j c; decide
/-- `hop j` reaches `p` from the device `hop j.rev p` and from no other. -/
theorem hop_eq_iff {j : Fin 3} {s p : Dev nD} : hop j s = p ↔ s = hop j.rev p := by revert j s p; decide
/-- No device is its own partner. -/
theorem hop_ne (j : Fin 3) (c : Dev nD) : hop j c ≠ c := by revert j c; decide

/-- The kernel's three raises address partners 0, 1, 2, -/
theorem dev1_eq (c : Dev nD) : (⟨k0_dev1 c, k0_dev1_lt c⟩ : Dev nD) = hop 0 c := by revert c; decide
theorem dev2_eq (c : Dev nD) : (⟨k0_dev2 c, k0_dev2_lt c⟩ : Dev nD) = hop 1 c := by revert c; decide
theorem dev3_eq (c : Dev nD) : (⟨k0_dev3 c, k0_dev3_lt c⟩ : Dev nD) = hop 2 c := by revert c; decide
/-- and its three copies partners 1, 0, 2. -/
theorem dev4_eq (c : Dev nD) : (⟨k0_dev4 c, k0_dev4_lt c⟩ : Dev nD) = hop 1 c := by revert c; decide
theorem dev5_eq (c : Dev nD) : (⟨k0_dev5 c, k0_dev5_lt c⟩ : Dev nD) = hop 0 c := by revert c; decide
theorem dev6_eq (c : Dev nD) : (⟨k0_dev6 c, k0_dev6_lt c⟩ : Dev nD) = hop 2 c := by revert c; decide

/-! ## The semaphores -/

/-- The barrier semaphore. -/
abbrev barS : Sem sig := (SemArray.scalar (sig.barrier 0 rfl) : Sems sig S_).sem

/-- Entry `j` of the semaphore array the copies credit at their source, -/
abbrev sentS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem

/-- and of the one they credit at their destination. -/
abbrev gotS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

/-- The seven roles a semaphore of the protocol can have: the barrier (`none`), "sent" to partner `j`
    (`some (false, j)`), "received" with number `j` (`some (true, j)`). -/
abbrev Role : Type := Option (Bool × Fin 3)

/-- The semaphore of a role. -/
abbrev roleSem : Role → SemLoc sig
  | none => .reg barS
  | some (false, j) => .dma (sentS j)
  | some (true, j) => .dma (gotS j)

theorem roleSem_injective : Function.Injective roleSem := by decide

open Classical in
/-- The role of a semaphore, if it has one. -/
def roleOf (s : SemLoc sig) : Option Role := if h : ∃ r, roleSem r = s then some h.choose else none

theorem roleOf_sem (r : Role) : roleOf (roleSem r) = some r := by
  have h : ∃ r', roleSem r' = roleSem r := ⟨r, rfl⟩
  unfold roleOf; rw [dif_pos h]; exact congrArg some (roleSem_injective h.choose_spec)

/-- A semaphore that is none of the seven has no role. -/
theorem roleOf_none {s : SemLoc sig} (h : ∀ r, roleSem r ≠ s) : roleOf s = none := dif_neg fun ⟨r, hr⟩ => h r hr

/-- The cell of role `r` on device `c`. -/
abbrev cellAt (c : Dev nD) (r : Role) : GSem nD τ sig := ((c : Thread nD τ), roleSem r)
abbrev barCell (c : Dev nD) : GSem nD τ sig := cellAt c none
abbrev sentCell (c : Dev nD) (j : Fin 3) : GSem nD τ sig := cellAt c (some (false, j))
abbrev gotCell (c : Dev nD) (j : Fin 3) : GSem nD τ sig := cellAt c (some (true, j))

theorem cellAt_injective : Function.Injective fun cr : Dev nD × Role => cellAt cr.1 cr.2 := by
  rintro ⟨c, r⟩ ⟨c', r'⟩ h
  have h1 : c = c' := congrArg (fun g : GSem nD τ sig => g.1.1) h
  have h2 : r = r' := roleSem_injective (congrArg Prod.snd h)
  rw [h1, h2]

theorem cellAt_eq_iff {c c' : Dev nD} {r r' : Role} : cellAt c r = cellAt c' r' ↔ c = c' ∧ r = r' :=
  ⟨fun h => by have := @cellAt_injective (c, r) (c', r') h; exact ⟨congrArg Prod.fst this, congrArg Prod.snd this⟩,
   fun ⟨h1, h2⟩ => by rw [h1, h2]⟩

/-! ## The gathering buffer and its quarters -/

/-- The whole gathering buffer, -/
abbrev bufM : Memref sig .tc .vmem S1024x256 .bf16 := Memref.whole cc0_scratch0
/-- the rectangle of device `d`'s 256 rows in it, as the kernel's copies name it, -/
abbrev rowsRect (d : Dev nD) : Rect S1024x256 := Rect.unit (s := S1024x256) (k0_off2 d) S256x256.size (k0_off2_inb d)
/-- and those rows as a memory reference. -/
abbrev rowsM (d : Dev nD) : Memref sig .tc .vmem S256x256 .bf16 := bufM.slice (rowsRect d) (fun _ => rfl)

/-- The buffer's location on device `c`. -/
abbrev bufAt (c : Dev nD) : Loc nD τ sig := (c : Thread nD τ).loc cc0_scratch0

/-- The elements of device `d`'s rows. -/
def rows (d : Dev nD) : Finset S1024x256.Idx := (rowsRect d).set

theorem rowsM_set (d : Dev nD) : (rowsM d).view.set = rows d := View.set_slice_whole cc0_scratch0 (rowsRect d)

/-- An element lies in device `d`'s rows when its row number does. -/
theorem mem_rows {d : Dev nD} {i : S1024x256.Idx} : i ∈ rows d ↔ (i 0).val / 256 = d.val := by
  unfold rows rowsRect
  rw [Rect.mem_set_unit, k0_off2_eq]
  have h1 : (i 1 : ℕ) < 256 := (i 1).isLt
  constructor
  · intro h
    have h0 := h 0
    simp only [Matrix.cons_val_zero] at h0
    change 256 * d.val ≤ (i 0 : ℕ) ∧ (i 0 : ℕ) < 256 * d.val + 256 at h0
    omega
  · intro h a
    match a with
    | 0 => show 256 * d.val ≤ (i 0 : ℕ) ∧ (i 0 : ℕ) < 256 * d.val + 256; omega
    | 1 => show 0 ≤ (i 1 : ℕ) ∧ (i 1 : ℕ) < 0 + 256; omega

theorem rows_disjoint (d d' : Dev nD) (h : d ≠ d') : Disjoint (rows d) (rows d') :=
  Finset.disjoint_left.mpr fun i hi hi' => h (Fin.ext ((mem_rows.mp hi).symm.trans (mem_rows.mp hi')))

theorem rows_cover : Finset.univ.biUnion rows = (Finset.univ : Finset S1024x256.Idx) := by
  ext i
  have h0 : (i 0 : ℕ) < 1024 := (i 0).isLt
  simp only [Finset.mem_biUnion, Finset.mem_univ, true_and, iff_true]
  exact ⟨⟨(i 0 : ℕ) / 256, by show _ < 4; omega⟩, mem_rows.mpr rfl⟩

/-- The two offset chains of a device's rows have one value. -/
theorem off1_eq (d : Dev nD) : k0_off1 d = k0_off2 d := (k0_off1_eq d).trans (k0_off2_eq d).symm

/-- The credit of one copy: that of 256 rows, whichever they are. -/
def N : ℕ := (rowsM 0).view.dmaCredit
theorem N_pos : 0 < N := View.dmaCredit_pos _ (by decide)
theorem rowsM_credit (d : Dev nD) : (rowsM d).view.dmaCredit = N := rfl

/-! ## The contents -/

/-- What device `c`'s four staged inputs hold: its tokens, the router's weights, its tokens' experts, its own two
    experts' weights. -/
def xAt (c : Dev nD) : (cc0_stg0_0 : Ref sig .tc).ty.Contents (Elt F) :=
  (win0_0.blk (0 : Fin 1)).view.read (Elt F) (m ((c : Thread nD τ).loc main_arg0))
def rwAt (c : Dev nD) : (cc0_stg1_0 : Ref sig .tc).ty.Contents (Elt F) :=
  (win0_1.blk (0 : Fin 1)).view.read (Elt F) (m ((c : Thread nD τ).loc main_arg1))
def idxAt (c : Dev nD) : (cc0_stg2_0 : Ref sig .tc).ty.Contents (Elt F) :=
  (win0_2.blk (0 : Fin 1)).view.read (Elt F) (m ((c : Thread nD τ).loc main_arg2))
def ewAt (c : Dev nD) : (cc0_stg3_0 : Ref sig .tc).ty.Contents (Elt F) :=
  (win0_3.blk (0 : Fin 1)).view.read (Elt F) (m ((c : Thread nD τ).loc main_arg3))

/-- Which device's rows a row number belongs to, -/
def ownerOf (i : S1024x256.Idx) : Dev nD :=
  ⟨(i 0).val / 256, by have : (i 0).val < 1024 := (i 0).isLt; show _ < 4; omega⟩
/-- and the place within them. -/
def withinOf (i : S1024x256.Idx) : S256x256.Idx := fun
  | 0 => ⟨(i 0).val % 256, Nat.mod_lt _ (by decide)⟩
  | 1 => ⟨(i 1).val, (i 1).isLt⟩

/-- The contents of the gathering buffer when everything has arrived — the same on every device: each device's rows hold
    that device's own two experts' weights, recast as 256 rows. -/
def gathered : S1024x256.Idx → Elt F .bf16 := fun i => k0_pay1 (ewAt m (ownerOf i)) (withinOf i)

omit [FloatOps F] in
/-- The element of the buffer under place `x` of device `d`'s rows: its owner is `d`, its place within them `x`. -/
theorem rows_emb (d : Dev nD) (x : S256x256.Idx) :
    ownerOf ((rowsRect d).emb x) = d ∧ withinOf ((rowsRect d).emb x) = x := by
  have e0 : (((rowsRect d).emb x 0 : Fin _) : ℕ) = 256 * d.val + (x 0).val := by
    show (k0_off2 d 0) + 1 * (x 0).val = _
    rw [k0_off2_eq]; simp
  have e1 : (((rowsRect d).emb x 1 : Fin _) : ℕ) = (x 1).val := by
    show (k0_off2 d 1) + 1 * (x 1).val = _
    rw [k0_off2_eq]; simp
  have h0 : (x 0).val < 256 := (x 0).isLt
  constructor
  · apply Fin.ext; show ((rowsRect d).emb x 0 : ℕ) / 256 = d.val; omega
  · funext a
    match a with
    | 0 => apply Fin.ext; show ((rowsRect d).emb x 0 : ℕ) % 256 = (x 0).val; omega
    | 1 => apply Fin.ext; show ((rowsRect d).emb x 1 : ℕ) = (x 1).val; exact e1

omit [FloatOps F] in
/-- The kernel's own store of device `d`'s rows names them by another offset chain, of the same value: it stays within
    those rows, -/
theorem store_within (d : Dev nD) {off : Fin 2 → ℕ} {inb} (ho : off = k0_off2 d) :
    (bufM.access (Rect.unit (s := S1024x256) off S256x256.size inb)).setOn Finset.univ ⊆ rows d := by
  subst ho; exact (rowsM_set d).le

omit [FloatOps F] in
/-- a read there stays within them too, -/
theorem load_within (d : Dev nD) {off : Fin 2 → ℕ} {inb} (ho : off = k0_off2 d) :
    bufM.view.setOn (Rect.unit (s := S1024x256) off S256x256.size inb).toLoadRect.set ⊆ rows d := by
  subst ho
  intro i hi
  obtain ⟨j, hj, rfl⟩ := Finset.mem_map.mp hi
  exact hj

/-- and the store leaves device `c`'s rows holding what is to be gathered there. -/
theorem stored_rows (c : Dev nD) (f : S1024x256.Idx → Elt F .bf16) {off : Fin 2 → ℕ} {inb} (ho : off = k0_off2 c) :
    ∀ i ∈ rows c, (bufM.access (Rect.unit (s := S1024x256) off S256x256.size inb)).write (Elt F) f (k0_pay1 (ewAt m c)) Finset.univ i
      = gathered m i := by
  subst ho
  intro i hi
  rw [← rowsM_set] at hi
  obtain ⟨x, -, rfl⟩ := Finset.mem_map.mp hi
  refine (View.write_emb_of_mem (v := bufM.access (rowsRect c)) (Val := Elt F) f (k0_pay1 (ewAt m c)) (Finset.mem_univ x)).trans ?_
  obtain ⟨h1, h2⟩ := rows_emb c x
  show k0_pay1 (ewAt m c) x = k0_pay1 (ewAt m (ownerOf ((rowsRect c).emb x))) (withinOf ((rowsRect c).emb x))
  rw [h1, h2]

omit [FloatOps F] in
/-- A copy of device `d`'s rows out of a buffer with contents `f` leaves the destination's rows holding `f`. -/
theorem copied_rows (d : Dev nD) (fd f : S1024x256.Idx → Elt F .bf16) :
    ∀ i ∈ rows d, (rowsM d).view.write (Elt F) fd ((rowsM d).view.read (Elt F) f) Finset.univ i = f i := by
  intro i hi
  rw [← rowsM_set] at hi
  obtain ⟨x, -, rfl⟩ := Finset.mem_map.mp hi
  exact View.write_emb_of_mem (v := (rowsM d).view) (Val := Elt F) fd ((rowsM d).view.read (Elt F) f) (Finset.mem_univ x)

/-! ## Holding rows -/

/-- Device `d`'s rows of the gathering buffer of device `c`, held at share `q` with contents `f`. -/
def held (c d : Dev nD) (q : PosShare TreeShare) (f : Buf (Elt F) (bufAt c)) : sProp 𝕄 := bufAt c ↦[rows d]{q} f

omit [FloatOps F] in
instance held_storable (c d : Dev nD) (q) (f) : BI.Storable (upEmb : UEmb _ 𝕄) (held (F := F) c d q f) := by
  unfold held; infer_instance

/-- The full share cut in four: piece `j` of the source rows goes under the copy to partner `j`, piece 3 stays for the
    device's own reads. -/
abbrev piece (i : Fin 4) : PosShare TreeShare := ShareLeaves.leaf 2 fullShare i

omit [FloatOps F] in
/-- Rows held in full are held as the four pieces. -/
theorem held_pieces (c d : Dev nD) (f : Buf (Elt F) (bufAt c)) :
    held c d fullShare f = iprop(held c d (piece 0) f ∗ held c d (piece 1) f ∗ held c d (piece 2) f ∗ held c d (piece 3) f) := by
  unfold held
  rw [ShareLeaves.pointsTo_leaves (rows d) f 2 fullShare]
  exact bigSep_univ_eq_bigSepL [0, 1, 2, 3] (by decide) (by decide) (fun i : Fin 4 => (bufAt c ↦[rows d]{piece i} f : sProp 𝕄))

/-- A device and its three partners are the four devices, each once. -/
theorem partners_all (c : Dev nD) : (Finset.univ : Finset (Dev nD)) = [c, hop 0 c, hop 1 c, hop 2 c].toFinset := by
  revert c; decide
theorem partners_nodup (c : Dev nD) : [c, hop 0 c, hop 1 c, hop 2 c].Nodup := by revert c; decide

omit [FloatOps F] in
/-- The whole buffer is device `c`'s own rows and its three partners'. -/
theorem whole_rows (c : Dev nD) (q : PosShare TreeShare) (f : Buf (Elt F) (bufAt c)) :
    (bufAt c ↦{q} f : sProp 𝕄) = iprop(held c c q f ∗ held c (hop 0 c) q f ∗ held c (hop 1 c) q f ∗ held c (hop 2 c) q f) := by
  rw [Ring.pointsTo_blocks (ℓ := bufAt c) rows rows_disjoint rows_cover f]
  unfold held
  exact bigSep_univ_eq_bigSepL [c, hop 0 c, hop 1 c, hop 2 c] (partners_all c) (partners_nodup c)
    (fun d : Dev nD => (bufAt c ↦[rows d]{q} f : sProp 𝕄))

/-! ## The schedule -/

/-- What partner `hop j.rev p`'s raise of `p`'s barrier cell hands `p`: that partner's buffer rows for `p`'s weights. -/
def barPay (p : Dev nD) (j : Fin 3) : sProp 𝕄 := iprop(∃ f, held (hop j.rev p) p fullShare f)
/-- What a copy hands back at its source: its piece of the source rows. -/
def sentPay (c : Dev nD) (j : Fin 3) : sProp 𝕄 := held c c (piece j.castSucc) (gathered m)
/-- What it hands over at its destination: the rows of the device it comes from, holding that device's weights. -/
def gotPay (c : Dev nD) (j : Fin 3) : sProp 𝕄 := held c (hop j.rev c) fullShare (gathered m)

/-- One round, round 0: a barrier cell has three duties of one unit, one per partner; a "sent" or "received" cell has one
    duty of a copy's credit. -/
def plan : Rounds.Schedule (GSem nD τ sig) (Fin 3) 𝕄 where
  duties g r := if r = 0 ∧ g.1.2 = .tc then
      (match roleOf g.2 with | some none => Finset.univ | some (some _) => {0} | none => ∅) else ∅
  unitless _ := False
  amount g _ _ := match roleOf g.2 with | some (some _) => N | _ => 1
  payload g _ d := match roleOf g.2 with
    | some none => barPay g.1.1 d
    | some (some (false, j)) => sentPay m g.1.1 j
    | some (some (true, j)) => gotPay m g.1.1 j
    | none => iprop(emp)
  amount_pos g _ _ _ := by
    show 0 < (match roleOf g.2 with | some (some _) => N | _ => 1)
    split
    · exact N_pos
    · exact Nat.one_pos

instance plan_storable (g : GSem nD τ sig) (r : ℕ) (d : Fin 3) :
    BI.Storable (upEmb : UEmb _ 𝕄) ((plan (F := F) m).payload g r d) := by
  unfold plan; dsimp only
  split
  · unfold barPay; infer_instance
  · unfold sentPay; infer_instance
  · unfold gotPay; infer_instance
  · infer_instance

theorem duties_bar (c : Dev nD) : (plan (F := F) m).duties (barCell c) 0 = Finset.univ := by
  unfold plan; dsimp only; rw [if_pos ⟨rfl, rfl⟩, roleOf_sem]
theorem duties_copy (c : Dev nD) (k : Bool × Fin 3) : (plan (F := F) m).duties (cellAt c (some k)) 0 = {0} := by
  unfold plan; dsimp only; rw [if_pos ⟨rfl, rfl⟩, roleOf_sem]
theorem duties_later (g : GSem nD τ sig) (r : ℕ) (hr : 1 ≤ r) : (plan (F := F) m).duties g r = ∅ := by
  unfold plan; dsimp only; rw [if_neg fun h => by omega]

theorem amount_bar (c : Dev nD) (d : Fin 3) : (plan (F := F) m).amount (barCell c) 0 d = 1 := by
  unfold plan; dsimp only; rw [roleOf_sem]
theorem amount_copy (c : Dev nD) (k : Bool × Fin 3) (d : Fin 3) : (plan (F := F) m).amount (cellAt c (some k)) 0 d = N := by
  unfold plan; dsimp only; rw [roleOf_sem]

theorem payload_bar (c : Dev nD) (d : Fin 3) : (plan (F := F) m).payload (barCell c) 0 d = barPay c d := by
  unfold plan; dsimp only; rw [roleOf_sem]
theorem payload_sent (c : Dev nD) (j d : Fin 3) : (plan (F := F) m).payload (sentCell c j) 0 d = sentPay m c j := by
  unfold plan; dsimp only; rw [roleOf_sem (some (false, j))]
theorem payload_got (c : Dev nD) (j d : Fin 3) : (plan (F := F) m).payload (gotCell c j) 0 d = gotPay m c j := by
  unfold plan; dsimp only; rw [roleOf_sem (some (true, j))]

/-- A barrier cell's round is worth three, a copy's cell's one copy's credit. -/
theorem expect_bar (c : Dev nD) : (plan (F := F) m).expect (barCell c) 0 = 3 := by
  unfold Schedule.expect Schedule.amountOf
  rw [duties_bar, Finset.sum_congr rfl fun d _ => amount_bar m c d]; rfl
theorem expect_copy (c : Dev nD) (k : Bool × Fin 3) : (plan (F := F) m).expect (cellAt c (some k)) 0 = N := by
  unfold Schedule.expect Schedule.amountOf
  rw [duties_copy, Finset.sum_singleton, amount_copy]

/-- What the wait for a whole round hands over: on the barrier cell, the rows of the three partners that this device is to
    fill; -/
theorem rest_bar (c : Dev nD) :
    bigSep ((plan (F := F) m).duties (barCell c) 0 \ ∅) (fun d => (plan (F := F) m).payload (barCell c) 0 d)
      = iprop((∃ f, held (hop 0 c) c fullShare f) ∗ (∃ f, held (hop 1 c) c fullShare f) ∗ ∃ f, held (hop 2 c) c fullShare f) := by
  rw [Finset.sdiff_empty, duties_bar, bigSep_univ_eq_bigSepL [2, 1, 0] (by decide) (by decide), bigSepL_cons_cons,
    bigSepL_cons_cons, bigSepL_singleton, payload_bar, payload_bar, payload_bar]
  rfl
/-- on a copy's cell, the copy's payload. -/
theorem rest_copy (c : Dev nD) (k : Bool × Fin 3) :
    bigSep ((plan (F := F) m).duties (cellAt c (some k)) 0 \ ∅) (fun d => (plan (F := F) m).payload (cellAt c (some k)) 0 d)
      = (plan (F := F) m).payload (cellAt c (some k)) 0 0 := by
  rw [Finset.sdiff_empty, duties_copy, bigSep_singleton]

/-! ## What a device owes, and the levels of the waits -/

/-- Owed when only the copy to partner 2 is still to be issued, -/
def owe1 (c : Dev nD) : CellTallies nD τ sig Unit := 0 + tallyAt (gotCell (hop 2 c) 2) () N
/-- when those to partners 0 and 2 are, -/
def owe2 (c : Dev nD) : CellTallies nD τ sig Unit := owe1 c + tallyAt (gotCell (hop 0 c) 0) () N
/-- when all three copies are, -/
def owe3 (c : Dev nD) : CellTallies nD τ sig Unit := owe2 c + tallyAt (gotCell (hop 1 c) 1) () N
/-- before the last raise, -/
def owe4 (c : Dev nD) : CellTallies nD τ sig Unit := owe3 c + tallyAt (barCell (hop 2 c)) () 1
/-- before the last two raises, -/
def owe5 (c : Dev nD) : CellTallies nD τ sig Unit := owe4 c + tallyAt (barCell (hop 1 c)) () 1
/-- and at launch. -/
def owe6 (c : Dev nD) : CellTallies nD τ sig Unit := owe5 c + tallyAt (barCell (hop 0 c)) () 1

/-- The cells with a level: those of the kernels' own processors. -/
def lvCells (g : GSem nD τ sig) : Finset Unit := if g.1.2 = .tc then {()} else ∅
/-- The levels: "received" cells at 2, barrier cells at 1, everything else at 0. -/
def lv (g : GSem nD τ sig) (_ : Unit) : ℕ :=
  match roleOf g.2 with | some (some (true, _)) => 2 | some none => 1 | _ => 0

theorem lvCells_ne (g : GSem nD τ sig) (h : g.1.2 ≠ .tc) : lvCells g = ∅ := if_neg h
theorem lvCells_at (c : Dev nD) (s : SemLoc sig) : lvCells ((c : Thread nD τ), s) = {()} := if_pos rfl
theorem lv_bar (c : Dev nD) (u : Unit) : lv (barCell c) u = 1 := by unfold lv; rw [roleOf_sem none]
theorem lv_got (c : Dev nD) (j : Fin 3) (u : Unit) : lv (gotCell c j) u = 2 := by unfold lv; rw [roleOf_sem (some (true, j))]
theorem lv_other (c : Dev nD) {s : SemLoc sig} (h : ∀ r, roleSem r ≠ s) (u : Unit) : lv ((c : Thread nD τ), s) u = 0 := by
  unfold lv; rw [roleOf_none h]

/-- What the debts of a device come to at a cell: one unit at a barrier cell per raise, a copy's credit at a "received"
    cell per copy. -/
theorem owe3_apply (c : Dev nD) (g : GSem nD τ sig) (u : Unit) :
    owe3 c g u = (if g = gotCell (hop 2 c) 2 then N else 0) + (if g = gotCell (hop 0 c) 0 then N else 0)
      + (if g = gotCell (hop 1 c) 1 then N else 0) := by
  unfold owe3 owe2 owe1
  simp only [Pi.add_apply, Finsupp.add_apply, Pi.zero_apply, Finsupp.zero_apply, tallyAt_apply, zero_add, and_true]
theorem owe6_apply (c : Dev nD) (g : GSem nD τ sig) (u : Unit) :
    owe6 c g u = owe3 c g u + (if g = barCell (hop 2 c) then 1 else 0) + (if g = barCell (hop 1 c) then 1 else 0)
      + (if g = barCell (hop 0 c) then 1 else 0) := by
  unfold owe6 owe5 owe4
  simp only [Pi.add_apply, Finsupp.add_apply, tallyAt_apply, and_true]

/-- A device with copies still to issue owes at "received" cells only; -/
theorem owe3_pos {c : Dev nD} {g : GSem nD τ sig} {u : Unit} (h : 0 < owe3 c g u) : ∃ d j, g = gotCell d j := by
  by_contra hn
  have e (d j) : g ≠ gotCell d j := fun h => hn ⟨d, j, h⟩
  rw [owe3_apply, if_neg (e _ _), if_neg (e _ _), if_neg (e _ _)] at h
  exact Nat.lt_irrefl 0 h
/-- at launch, at those and at barrier cells. -/
theorem owe6_pos {c : Dev nD} {g : GSem nD τ sig} {u : Unit} (h : 0 < owe6 c g u) :
    (∃ d j, g = gotCell d j) ∨ ∃ d, g = barCell d := by
  by_contra hn
  rw [not_or] at hn
  have e (d) : g ≠ barCell d := fun h => hn.2 ⟨d, h⟩
  rw [owe6_apply, if_neg (e _), if_neg (e _), if_neg (e _)] at h
  simp only [Nat.add_zero] at h
  exact hn.1 (owe3_pos h)

omit [FloatOps F] in
/-- A wait on a staging semaphore is allowed with the launch's debts, and with none: every debt is at a higher level. -/
theorem mayWait_staging (c : Dev nD) (q : DmaSem sig) (hq : ∀ r, roleSem r ≠ .dma q) (O : CellTallies nD τ sig Unit)
    (hO : O = owe6 c ∨ O = 0) : (levAts lvCells lv : sProp 𝕄) ⊢ MayWait (c : Thread nD τ) (.dma q) () O := by
  rcases hO with rfl | rfl
  · refine MayOwe.of_cut (L := lvCells) (lev := lv) 0
      (fun p hp => by rw [Finset.mem_singleton.mp hp, lvCells_at]; exact Finset.mem_singleton_self _) (fun g u hg => ?_)
      (fun p hp => by rw [Finset.mem_singleton.mp hp, lv_other c hq]) (fun g u hg => ?_)
    · rcases owe6_pos hg with ⟨d, j, rfl⟩ | ⟨d, rfl⟩ <;> (rw [lvCells_at]; exact Finset.mem_singleton_self _)
    · rcases owe6_pos hg with ⟨d, j, rfl⟩ | ⟨d, rfl⟩
      · rw [lv_got]; decide
      · rw [lv_bar]; decide
  · rw [MayWait_zero]; iintro -; iempintro

omit [FloatOps F] in
/-- A wait on the barrier cell is allowed while the three copies are still owed: those debts are at a higher level. -/
theorem mayWait_bar (c : Dev nD) : (levAts lvCells lv : sProp 𝕄) ⊢ MayWait (c : Thread nD τ) (.reg barS) () (owe3 c) := by
  refine MayOwe.of_cut (L := lvCells) (lev := lv) 1
    (fun p hp => by rw [Finset.mem_singleton.mp hp, lvCells_at]; exact Finset.mem_singleton_self _) (fun g u hg => ?_)
    (fun p hp => by rw [Finset.mem_singleton.mp hp]; exact (lv_bar c _).le) (fun g u hg => ?_)
  · obtain ⟨d, j, rfl⟩ := owe3_pos hg; rw [lvCells_at]; exact Finset.mem_singleton_self _
  · obtain ⟨d, j, rfl⟩ := owe3_pos hg; rw [lv_got]; decide

end Cert.Gathered

end
-- ==== Proof.Steps.lean ====
/-
# One step of the protocol at a time

What a device holds when its kernel starts, and what each raise, copy and wait of the kernel does to it.
-/
module

public import proofs.«01_k».proof.Proof.Protocol

@[expose] public section

set_option maxRecDepth 16384

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Us ℕ

variable (m : (ℓ : Loc nD τ sig) → Buf (Elt F) ℓ)

/-- The program's procedure variants: none. -/
abbrev noVariants : Variants := Variants.none

/-! ## What a device starts from -/

variable (K : Dev nD × Role → ℕ)

/-- Every cell's invariant, under the names `K`, and that every cell is at round 0. -/
def records : sProp 𝕄 :=
  iprop((bigSep Finset.univ fun cr : Dev nD × Role => cellInv ERnd (plan m) (K cr) (cellAt cr.1 cr.2))
    ∗ bigSep Finset.univ fun cr : Dev nD × Role => reached ERnd (cellAt cr.1 cr.2) 0)

instance records_persistent : BI.Persistent (records m K) := by unfold records; infer_instance

/-- One cell's invariant out of them, -/
theorem records_inv (c : Dev nD) (r : Role) : records m K ⊢ cellInv ERnd (plan m) (K (c, r)) (cellAt c r) := by
  unfold records
  iintro ⟨HI, -⟩
  iapply (show (bigSep Finset.univ fun cr : Dev nD × Role => (cellInv ERnd (plan m) (K cr) (cellAt cr.1 cr.2) : sProp 𝕄))
    ⊢ cellInv ERnd (plan m) (K (c, r)) (cellAt c r) from bigSep_elim (Finset.mem_univ (c, r)))
  iexact HI

/-- and that one cell is at round 0. -/
theorem records_reached (c : Dev nD) (r : Role) : records m K ⊢ reached ERnd (cellAt c r) 0 := by
  unfold records
  iintro ⟨-, HR⟩
  iapply (show (bigSep Finset.univ fun cr : Dev nD × Role => (reached ERnd (cellAt cr.1 cr.2) 0 : sProp 𝕄))
    ⊢ reached ERnd (cellAt c r) 0 from bigSep_elim (Finset.mem_univ (c, r)))
  iexact HR

/-- The tokens of the duties device `c` pays towards partner `j`: the raise, and the copy at both of its ends. -/
def payToks (c : Dev nD) (j : Fin 3) : sProp 𝕄 :=
  iprop(dutyTok ERnd (barCell (hop j c)) 0 j ∗ dutyTok ERnd (sentCell c j) 0 0 ∗ dutyTok ERnd (gotCell (hop j c) j) 0 0)

/-- The protocol's ghost state device `c` starts from: the records, its position at each of its own cells, its tokens. -/
def ghost (c : Dev nD) : sProp 𝕄 :=
  iprop(records m K ∗ (bigSep Finset.univ fun r : Role => atPos ERnd (cellAt c r) 0 ∅ 0)
    ∗ bigSep Finset.univ fun j : Fin 3 => payToks c j)

/-! ## The steps -/

/-- Raising partner `j`'s barrier cell hands that partner this device's buffer rows for its weights. -/
theorem raise_step (c n : Dev nD) (j : Fin 3) (hn : n = hop j c) {k' : ℕ} (hk : k' = 1) (O : CellTallies nD τ sig Unit)
    {W : Waits sig Unit} {α : Type} {Q : α → sProp 𝕄} {k : PUnit → Prog (TpuEff nD τ sig (Elt F) Λ₀ .tc) α} :
    iprop(records m K ∗ owes (c : Thread nD τ) (O + tallyAt (barCell (hop j c)) () 1) W
        ∗ dutyTok ERnd (barCell (hop j c)) 0 j ∗ (∃ f, held c (hop j c) fullShare f))
      ⊢ iprop((owes (c : Thread nD τ) O W -∗ wp frame (wpE (defs₀ (F := F)) noVariants (c : Thread nD τ) none) Set.univ (k ⟨⟩) Q)
          -∗ wp frame (wpE (defs₀ (F := F)) noVariants (c : Thread nD τ) none) Set.univ
              (.op (.semSignal (Dev.tc n : Thread nD τ) barS k') k) Q) := by
  subst hn hk
  iintro ⟨#HR, HO, Ht, Hb⟩
  iapply (Rounds.wp_signal noVariants ERnd (plan m) (c : Thread nD τ) none (dst := (hop j c : Thread nD τ)) (κ := K (hop j c, none))
      (d := j) (by rw [duties_bar]; exact Finset.mem_univ _) (amount_bar m (hop j c) j) () O rfl)
  isplitr; · iapply (records_inv m K (hop j c) none); iexact HR
  isplitl [HO]; · iexact HO
  isplitl [Ht]; · iexact Ht
  isplitl [Hb]
  · rw [payload_bar]; unfold barPay; rw [hop_back]; iexact Hb
  iapply (records_reached m K (hop j c) none); iexact HR

/-- The wait for all three raises of the own barrier cell, the three copies still owed: the three partners' rows for this
    device's weights arrive with it. -/
theorem barrier_step (c : Dev nD) {k' : ℕ} (hk : k' = 3) {W : Waits sig Unit} {α : Type} {Q : α → sProp 𝕄}
    {k : PUnit → Prog (TpuEff nD τ sig (Elt F) Λ₀ .tc) α} :
    iprop(records m K ∗ levAts lvCells lv ∗ cred (tallyAt (barCell c) () 3) ∗ owes (c : Thread nD τ) (owe3 c) W
        ∗ atPos ERnd (barCell c) 0 ∅ 0)
      ⊢ iprop(((owes (c : Thread nD τ) (owe3 c) (insert (SemLoc.reg barS, ()) W) ∗ atPos ERnd (barCell c) 1 ∅ 0
              ∗ (∃ f, held (hop 0 c) c fullShare f) ∗ (∃ f, held (hop 1 c) c fullShare f) ∗ ∃ f, held (hop 2 c) c fullShare f)
            -∗ wp frame (wpE (defs₀ (F := F)) noVariants (c : Thread nD τ) none) Set.univ (k ⟨⟩) Q)
          -∗ wp frame (wpE (defs₀ (F := F)) noVariants (c : Thread nD τ) none) Set.univ (.op (.semWait barS k') k) Q) := by
  subst hk
  iintro ⟨#HR, #Hlev, Hc, HO, Hat⟩ Hk
  iapply (Rounds.wp_wait_rest_token noVariants ERnd (plan m) (c : Thread nD τ) none (κ := K (c, none))
      (wpE_semWait_eq noVariants (c : Thread nD τ) none Set.univ) (Set.mem_univ _) () (O := owe3 c) (W := W) (R := 0) (m := 0)
      (T := ∅) (by rw [expect_bar])) $$ [Hc HO Hat]
  · isplitr; · iapply (records_inv m K c none); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- The copy of the own rows to partner `j`: it takes its piece of the own rows, filled with the own weights, and the
    partner's rows, and pays the partner's "received" cell. -/
theorem copy_step (c n : Dev nD) (j : Fin 3) (hn : n = hop j c)
    {hsc : (rowsM c : Memref sig (Dev.tc n : Thread nD τ).2.kind .vmem S256x256 .bf16).view.ref.isScScratch = false}
    {hsrc : (rowsM c).view.WordExact} {hdst : (rowsM c).view.WordExact}
    {hsem : DmaTarget.Typed .vmem (.dma (gotS j)) (.remote (Dev.tc n : Thread nD τ) (rowsM c) (.dma (sentS j)) hsc)}
    (O : CellTallies nD τ sig Unit) {W : Waits sig Unit} {α : Type} {Q : α → sProp 𝕄}
    {k : PUnit → Prog (TpuEff nD τ sig (Elt F) Λ₀ .tc) α} :
    iprop(records m K ∗ held c c (piece j.castSucc) (gathered m) ∗ (∃ f, held (hop j c) c fullShare f)
        ∗ owes (c : Thread nD τ) (O + tallyAt (gotCell (hop j c) j) () N) W
        ∗ dutyTok ERnd (sentCell c j) 0 0 ∗ dutyTok ERnd (gotCell (hop j c) j) 0 0)
      ⊢ iprop(((cred (tallyAt (sentCell c j) () N) ∗ owes (c : Thread nD τ) O W)
            -∗ wp frame (wpE (defs₀ (F := F)) noVariants (c : Thread nD τ) none) Set.univ (k ⟨⟩) Q)
          -∗ wp frame (wpE (defs₀ (F := F)) noVariants (c : Thread nD τ) none) Set.univ
              (.op (.enqueueDma (rowsM c) (.remote (Dev.tc n : Thread nD τ) (rowsM c) (.dma (sentS j)) hsc) (.dma (gotS j)) hsrc hdst hsem) k) Q) := by
  subst hn
  iintro ⟨#HR, Hsrc, ⟨%fd, Hdst⟩, HO, Hts, Htg⟩
  iapply (Rounds.wp_send_pointsTo noVariants ERnd (plan m) (c : Thread nD τ) none (κ₁ := K (c, some (false, j)))
    (κ₂ := K (hop j c, some (true, j))) (r₁ := 0) (r₂ := 0) (d₁ := 0) (d₂ := 0) (fd := fd) (fs := gathered m) (q := piece j.castSucc)
    (by rw [duties_copy]; exact Finset.mem_singleton_self _) (by rw [duties_copy]; exact Finset.mem_singleton_self _)
    () () N (show (rowsM c).view.amount (.dma (gotS j)) = N from rowsM_credit c) (amount_copy m c (false, j) 0) (amount_copy m (hop j c) (true, j) 0) O rfl (W := W)
    (by rw [payload_sent]; unfold sentPay held; rw [rowsM_set])
    (by
      rw [payload_got]; unfold gotPay held; rw [rowsM_set, hop_back]
      exact Entails.of_eq (pointsTo_congr fun i hi => copied_rows c fd (gathered m) i hi)))
  isplitr; · iapply (records_inv m K c (some (false, j))); iexact HR
  isplitr; · iapply (records_inv m K (hop j c) (some (true, j))); iexact HR
  isplitl [Hsrc]; · rw [rowsM_set]; unfold held; iexact Hsrc
  isplitl [Hdst]; · rw [rowsM_set]; unfold held; iexact Hdst
  isplitl [HO]; · iexact HO
  isplitl [Hts]; · iexact Hts
  isplitr; · iapply (records_reached m K c (some (false, j))); iexact HR
  isplitl [Htg]; · iexact Htg
  iapply (records_reached m K (hop j c) (some (true, j))); iexact HR

/-- The wait for the copy credited to one of the own "sent" or "received" cells, nothing owed: the copy's payload comes
    with it. -/
theorem copied_step (c d : Dev nD) (i : Bool × Fin 3) (sm : DmaSem sig) (hs : SemLoc.dma sm = roleSem (some i))
    {h₁ : (rowsM d).view.WordExact} {h₂ : (rowsM d).view.WordExact}
    {W : Waits sig Unit} {α : Type} {Q : α → sProp 𝕄} {k : PUnit → Prog (TpuEff nD τ sig (Elt F) Λ₀ .tc) α} :
    iprop(records m K ∗ cred (tallyAt (cellAt c (some i)) () N) ∗ owes (c : Thread nD τ) 0 W ∗ atPos ERnd (cellAt c (some i)) 0 ∅ 0)
      ⊢ iprop(((owes (c : Thread nD τ) 0 (insert (roleSem (some i), ()) W) ∗ atPos ERnd (cellAt c (some i)) 1 ∅ 0
              ∗ (plan m).payload (cellAt c (some i)) 0 0)
            -∗ wp frame (wpE (defs₀ (F := F)) noVariants (c : Thread nD τ) none) Set.univ (k ⟨⟩) Q)
          -∗ wp frame (wpE (defs₀ (F := F)) noVariants (c : Thread nD τ) none) Set.univ
              (.op (.waitDma2 sm (rowsM d) (rowsM d) h₁ h₂) k) Q) := by
  have hw (Kt : PUnit → sProp 𝕄) : wpE (defs₀ (F := F)) noVariants (c : Thread nD τ) none Set.univ (.waitDma2 sm (rowsM d) (rowsM d) h₁ h₂) Kt
      = waitSpec (c : Thread nD τ) Set.univ (roleSem (some i)) N Kt := by
    rw [← hs, ← rowsM_credit d]; exact wpE_waitDma2_eq noVariants (c : Thread nD τ) none Set.univ Kt
  iintro ⟨#HR, Hc, HO, Hat⟩ Hk
  iapply (Rounds.wp_wait_rest_token noVariants ERnd (plan m) (c : Thread nD τ) none (κ := K (c, some i))
      hw (Set.mem_univ _) () (O := 0) (W := W) (R := 0) (m := 0)
      (T := ∅) (by rw [expect_copy, Nat.zero_add])) $$ [Hc HO Hat]
  · isplitr; · iapply (records_inv m K c (some i)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_copy m c i)); iexact Hpay

/-- When all seven waits are done, the device closes its seven cells and has their counters back, at zero. -/
theorem close_all (c : Dev nD) :
    iprop(records m K ∗ bigSep Finset.univ fun r : Role => atPos ERnd (cellAt c r) 1 ∅ 0)
      ⊢ iprop(|={Set.univ}=> bigSep Finset.univ fun r : Role => semVal (cellAt c r) 0 : sProp 𝕄) := by
  have h1 (r : Role) : iprop(records m K ∗ atPos ERnd (cellAt c r) 1 ∅ 0) ⊢ iprop(|={Set.univ}=> semVal (cellAt c r) 0 : sProp 𝕄) := by
    iintro ⟨#HR, Hat⟩
    iapply (Rounds.cell_close ERnd (plan m) (Set.mem_univ (K (c, r))) (fun h => h) (R := 1) (fun r' hr => duties_later m (cellAt c r) r' hr))
    isplitr; · iapply (records_inv m K c r); iexact HR
    iexact Hat
  refine BI.Entails.trans ?_ (bigSep_fupd Finset.univ fun r : Role => (semVal (cellAt c r) 0 : sProp 𝕄))
  refine (sep_mono_left (BI.bigSep_of_persistent (Finset.univ : Finset Role) (records m K))).trans ?_
  rw [← bigSep_sep']
  exact bigSep_mono fun r _ => h1 r

end Cert.Gathered

end
-- ==== Proof.Body.lean ====
/-
# The kernel on one device

The kernel's body, executed effect by effect from what the launch hands a device to what the device hands back.
-/
module

public import proofs.«01_k».proof.Proof.Steps

@[expose] public section

set_option maxRecDepth 16384

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Us ℕ

variable (m : (ℓ : Loc nD τ sig) → Buf (Elt F) ℓ)

/-! ## What the kernel computes and the proof data of the call -/

/-- Device `c`'s result: its tokens, weighted by the experts' gates and laid side by side, times the gathered weights. -/
def outAt (c : Dev nD) : (cc0_stg4_0 : Ref sig .tc).ty.Contents (Elt F) :=
  k0_pay10 (k0_pay9 (k0_pay2 (xAt m c)) (k0_pay5 (idxAt m c)) (k0_pay6 (idxAt m c)) (k0_pay7 (xAt m c) (rwAt m c) (idxAt m c))
    (k0_pay8 (xAt m c) (rwAt m c) (idxAt m c)) (Scalar.ofBits .f32 0x00000000#32)) (gathered m)

/-- What device `c`'s body starts from, apart from the gathering buffer: the protocol's ghost state at some names, the
    credits of its barrier cell and of its three "received" cells, and the levels. -/
def start (c : Dev nD) : sProp 𝕄 :=
  iprop((∃ K, ghost m K c) ∗ cred (tallyAt (barCell c) () 3) ∗ (bigSep Finset.univ fun j : Fin 3 => cred (tallyAt (gotCell c j) () N))
    ∗ levAts lvCells lv)

/-- Before the body: that and the gathering buffer at any contents; -/
def before (c : Dev nD) : sProp 𝕄 := iprop(start m c ∗ ∃ f, bufAt c ↦{fullShare} f)
/-- after it: the gathering buffer filled, and the seven semaphores at zero. -/
def after (c : Dev nD) : sProp 𝕄 :=
  iprop((bufAt c ↦{fullShare} (gathered m : Buf (Elt F) (bufAt c))) ∗ bigSep Finset.univ fun r : Role => semVal (cellAt c r) 0)

/-- The call's proof data on device `c`. -/
def dats (_ : Fin 1) (c : Dev nD) : Dat τ (Elt F) Unit ℕ Us ℕ cfg0 c where
  A w := m ((cfg0.win w).arr.view.loc (c : Thread nD τ))
  after w _ := match w with
    | ⟨0, _⟩ => xAt m c
    | ⟨1, _⟩ => rwAt m c
    | ⟨2, _⟩ => idxAt m c
    | ⟨3, _⟩ => ewAt m c
    | ⟨4, _⟩ => outAt m c
  Φ t := match t with
    | ⟨0, _⟩ => before m c
    | ⟨_ + 1, _⟩ => after m c
  q _ := fullShare
  owed t := match t with
    | ⟨0, _⟩ => owe6 c
    | ⟨_ + 1, _⟩ => 0

/-- The call's one point. -/
def thePt : Fin cfg0.N := t0_0
theorem eq_thePt (t : Fin cfg0.N) : t = thePt := fin_N0 t

/-! ## Reads and writes of whole buffers -/

theorem zero2 : (![0, 0] : Fin 2 → ℕ) = fun _ => 0 := funext fun a => match a with | 0 => rfl | 1 => rfl
theorem zero3 : (![0, 0, 0] : Fin 3 → ℕ) = fun _ => 0 := funext fun a => match a with | 0 => rfl | 1 => rfl | 2 => rfl

omit [FloatOps F] in
theorem read_x (f : (cc0_stg0_0 : Ref sig .tc).ty.Contents (Elt F)) :
    (Memref.whole cc0_stg0_0 : Memref sig .tc .vmem S256x128 .bf16).view.readAt (Elt F)
      (Rect.unit (s := S256x128) ![0, 0] S256x128.size inb_S256x128_S256x128_0_0).toLoadRect f = f :=
  Memref.readAt_unit_zero (Elt F) cc0_stg0_0 zero2 _ f
omit [FloatOps F] in
theorem read_rw (f : (cc0_stg1_0 : Ref sig .tc).ty.Contents (Elt F)) :
    (Memref.whole cc0_stg1_0 : Memref sig .tc .vmem S128x8 .bf16).view.readAt (Elt F)
      (Rect.unit (s := S128x8) ![0, 0] S128x8.size inb_S128x8_S128x8_0_0).toLoadRect f = f :=
  Memref.readAt_unit_zero (Elt F) cc0_stg1_0 zero2 _ f
omit [FloatOps F] in
theorem read_idx (f : (cc0_stg2_0 : Ref sig .tc).ty.Contents (Elt F)) :
    (Memref.whole cc0_stg2_0 : Memref sig .tc .vmem S256x2 .i32).view.readAt (Elt F)
      (Rect.unit (s := S256x2) ![0, 0] S256x2.size inb_S256x2_S256x2_0_0).toLoadRect f = f :=
  Memref.readAt_unit_zero (Elt F) cc0_stg2_0 zero2 _ f
omit [FloatOps F] in
theorem read_ew (f : (cc0_stg3_0 : Ref sig .tc).ty.Contents (Elt F)) :
    (Memref.whole cc0_stg3_0 : Memref sig .tc .vmem S2x128x256 .bf16).view.readAt (Elt F)
      (Rect.unit (s := S2x128x256) ![0, 0, 0] S2x128x256.size inb_S2x128x256_S2x128x256_0_0_0).toLoadRect f = f :=
  Memref.readAt_unit_zero (Elt F) cc0_stg3_0 zero3 _ f
omit [FloatOps F] in
theorem read_buf (f : (cc0_scratch0 : Ref sig .tc).ty.Contents (Elt F)) :
    bufM.view.readAt (Elt F) (Rect.unit (s := S1024x256) ![0, 0] S1024x256.size inb_S1024x256_S1024x256_0_0).toLoadRect f = f :=
  Memref.readAt_unit_zero (Elt F) cc0_scratch0 zero2 _ f
omit [FloatOps F] in
theorem write_out (f w : (cc0_stg4_0 : Ref sig .tc).ty.Contents (Elt F)) :
    ((Memref.whole cc0_stg4_0 : Memref sig .tc .vmem S256x256 .f32).access
      (Rect.unit (s := S256x256) ![0, 0] S256x256.size inb_S256x256_S256x256_0_0) : View sig .tc _ _ _).write (Elt F) f w Finset.univ = w :=
  Memref.write_access_unit_zero_univ (Elt F) cc0_stg4_0 zero2 _ f w

/-! ## Conjunctions over the roles and over the partners, written out -/

omit [FloatOps F] in
theorem over_roles (Φ : Role → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)]
    (by decide) (by decide) Φ
omit [FloatOps F] in
theorem over_partners (Φ : Fin 3 → sProp 𝕄) : bigSep Finset.univ Φ = iprop(Φ 0 ∗ Φ 1 ∗ Φ 2) :=
  bigSep_univ_eq_bigSepL [0, 1, 2] (by decide) (by decide) Φ

/-! ## What the copies hand over, in pieces -/

/-- What lands with the copy from a partner: that partner's rows, in their four pieces; -/
theorem got_pieces (c : Dev nD) (j j' : Fin 3) (hj : j.rev = j') : (plan (F := F) m).payload (cellAt c (some (true, j))) 0 0
    = iprop(held c (hop j' c) (piece 0) (gathered m) ∗ held c (hop j' c) (piece 1) (gathered m)
      ∗ held c (hop j' c) (piece 2) (gathered m) ∗ held c (hop j' c) (piece 3) (gathered m)) := by
  subst hj; exact (payload_got m c j 0).trans (held_pieces c (hop j.rev c) (gathered m))

/-- what comes back when the own copy has left: the piece of the own rows it took. -/
theorem sent_piece (c : Dev nD) (j : Fin 3) : (plan (F := F) m).payload (cellAt c (some (false, j))) 0 0
    = held c c (piece j.castSucc) (gathered m) := payload_sent m c j 0

/-! ## The body -/

variable (K : Dev nD × Role → ℕ)

/-- A staging buffer of device `c` held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := Unit) (Name := ℕ) (U := Us) (Lvl := ℕ) (c : Thread nD τ) (Memref.whole b) fullShare X : sProp 𝕄) = stg c b X := by
  unfold owns; simp only [Memref.view_whole, View.read_whole, View.set_whole]

/-- The five staging buffers as the body finds them: the inputs filled, the result's at any contents; -/
def stagedIn (c : Dev nD) : sProp 𝕄 :=
  iprop(stg c cc0_stg0_0 (xAt m c) ∗ stg c cc0_stg1_0 (rwAt m c) ∗ stg c cc0_stg2_0 (idxAt m c) ∗ stg c cc0_stg3_0 (ewAt m c)
    ∗ ∃ f, stg c cc0_stg4_0 f)
/-- and as it leaves them. -/
def stagedOut (c : Dev nD) : sProp 𝕄 :=
  iprop(stg c cc0_stg0_0 (xAt m c) ∗ stg c cc0_stg1_0 (rwAt m c) ∗ stg c cc0_stg2_0 (idxAt m c) ∗ stg c cc0_stg3_0 (ewAt m c)
    ∗ stg c cc0_stg4_0 (outAt m c))

set_option maxHeartbeats 4000000 in
/-- The body, from what the launch hands device `c` to what it hands back: every buffer it reads it holds, every wait is
    allowed, and the result's staging buffer ends holding `outAt`. -/
theorem body_run (c : Dev nD) (Kt : PUnit → sProp 𝕄) (W : Waits sig Unit) :
    iprop((ghost m K c ∗ cred (tallyAt (barCell c) () 3) ∗ (bigSep Finset.univ fun j : Fin 3 => cred (tallyAt (gotCell c j) () N))
          ∗ levAts lvCells lv ∗ ∃ f, bufAt c ↦{fullShare} f)
        ∗ owes (c : Thread nD τ) (owe6 c) W ∗ stagedIn m c
        ∗ ((after m c ∗ (∃ W', owes (c : Thread nD τ) 0 W') ∗ stagedOut m c) -∗ Kt ⟨⟩))
      ⊢ wp frame (wpE (defs₀ (F := F)) noVariants c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold ghost stagedIn
  rw [over_roles, over_partners, over_partners]
  unfold payToks
  iintro ⟨⟨⟨#HR, ⟨HaB, HaS0, HaS1, HaS2, HaG0, HaG1, HaG2⟩, ⟨HtB0, HtS0, HtG0⟩, ⟨HtB1, HtS1, HtG1⟩, HtB2, HtS2, HtG2⟩, HcB, ⟨HcG0, HcG1, HcG2⟩, #Hlev, ⟨%f0, Hbuf⟩⟩,
    HO, ⟨⟨%gx, %hgx, Hx⟩, ⟨%gr, %hgr, Hr⟩, ⟨%gi, %hgi, Hi⟩, ⟨%ge, %hge, He⟩, ⟨%g0, %go, %hgo, Hout⟩⟩, Hk⟩
  subst hgx hgr hgi hge
  ihave Hq := (Entails.of_eq (whole_rows c fullShare f0)) $$ Hbuf
  icases Hq with ⟨Hown, Hq0, Hq1, Hq2⟩
  unfold owe6
  -- the three raises
  iapply (raise_step m K c _ 0 (dev1_eq c) (by decide) (owe5 c)) $$ [HO HtB0 Hq0]
  · isplitr; · iexact HR
    isplitl [HO]; · iexact HO
    isplitl [HtB0]; · iexact HtB0
    iexists f0; iexact Hq0
  iintro HO
  unfold owe5
  iapply (raise_step m K c _ 1 (dev2_eq c) (by decide) (owe4 c)) $$ [HO HtB1 Hq1]
  · isplitr; · iexact HR
    isplitl [HO]; · iexact HO
    isplitl [HtB1]; · iexact HtB1
    iexists f0; iexact Hq1
  iintro HO
  unfold owe4
  iapply (raise_step m K c _ 2 (dev3_eq c) (by decide) (owe3 c)) $$ [HO HtB2 Hq2]
  · isplitr; · iexact HR
    isplitl [HO]; · iexact HO
    isplitl [HtB2]; · iexact HtB2
    iexists f0; iexact Hq2
  iintro HO
  -- the own weights into the own rows
  iapply (wp_load noVariants (c : Thread nD τ) none Set.univ (m := Memref.whole cc0_stg3_0) (Finset.subset_univ _)) $$ He; iintro He
  rw [read_ew]
  unfold held
  iapply (wp_load noVariants (c : Thread nD τ) none Set.univ (m := bufM) (load_within c (off1_eq c))) $$ Hown; iintro Hown
  iapply (wp_store noVariants (c : Thread nD τ) none Set.univ (m := bufM)
    (r := Rect.unit (s := S1024x256) (k0_off1 c) S256x256.size (k0_off1_inb c)) (Mk := Finset.univ) (store_within c (off1_eq c))) $$ Hown; iintro Hown
  ihave Hown := (Entails.of_eq (pointsTo_congr (q := fullShare) (stored_rows m c f0 (off1_eq c)))) $$ Hown
  ihave Hown := (show ((bufAt c ↦[rows c]{fullShare} (gathered m : Buf (Elt F) (bufAt c))) : sProp 𝕄) ⊢ held c c fullShare (gathered m) from .rfl) $$ Hown
  -- the barrier
  iapply (barrier_step m K c (by decide)) $$ [HcB HO HaB]
  · isplitr; · iexact HR
    isplitr; · iexact Hlev
    isplitl [HcB]; · iexact HcB
    isplitl [HO]; · iexact HO
    iexact HaB
  iintro ⟨HO, HaB, Hd0, Hd1, Hd2⟩
  -- the three copies
  ihave Hown := (Entails.of_eq (held_pieces c c (gathered m))) $$ Hown
  icases Hown with ⟨Hp0, Hp1, Hp2, Hp3⟩
  unfold owe3
  iapply (copy_step m K c _ 1 (dev4_eq c) (owe2 c)) $$ [Hp1 Hd1 HO HtS1 HtG1]
  · isplitr; · iexact HR
    isplitl [Hp1]; · iexact Hp1
    isplitl [Hd1]; · iexact Hd1
    isplitl [HO]; · iexact HO
    isplitl [HtS1]; · iexact HtS1
    iexact HtG1
  iintro ⟨HcS1, HO⟩
  unfold owe2
  iapply (copy_step m K c _ 0 (dev5_eq c) (owe1 c)) $$ [Hp0 Hd0 HO HtS0 HtG0]
  · isplitr; · iexact HR
    isplitl [Hp0]; · iexact Hp0
    isplitl [Hd0]; · iexact Hd0
    isplitl [HO]; · iexact HO
    isplitl [HtS0]; · iexact HtS0
    iexact HtG0
  iintro ⟨HcS0, HO⟩
  unfold owe1
  iapply (copy_step m K c _ 2 (dev6_eq c) 0) $$ [Hp2 Hd2 HO HtS2 HtG2]
  · isplitr; · iexact HR
    isplitl [Hp2]; · iexact Hp2
    isplitl [Hd2]; · iexact Hd2
    isplitl [HO]; · iexact HO
    isplitl [HtS2]; · iexact HtS2
    iexact HtG2
  iintro ⟨HcS2, HO⟩
  -- the tokens, the router and the choices
  iapply (wp_load noVariants (c : Thread nD τ) none Set.univ (m := Memref.whole cc0_stg0_0) (Finset.subset_univ _)) $$ Hx; iintro Hx
  rw [read_x]
  iapply (wp_load noVariants (c : Thread nD τ) none Set.univ (m := Memref.whole cc0_stg1_0) (Finset.subset_univ _)) $$ Hr; iintro Hr
  rw [read_rw]
  iapply (wp_load noVariants (c : Thread nD τ) none Set.univ (m := Memref.whole cc0_stg2_0) (Finset.subset_univ _)) $$ Hi; iintro Hi
  rw [read_idx]
  -- the three partners' weights
  iapply (copied_step m K c _ (true, 0) _ rfl) $$ [HcG0 HO HaG0]
  · isplitr; · iexact HR
    isplitl [HcG0]; · iexact HcG0
    isplitl [HO]; · iexact HO
    iexact HaG0
  iintro ⟨HO, HaG0, Hl0⟩
  iapply (copied_step m K c _ (true, 2) _ rfl) $$ [HcG2 HO HaG2]
  · isplitr; · iexact HR
    isplitl [HcG2]; · iexact HcG2
    isplitl [HO]; · iexact HO
    iexact HaG2
  iintro ⟨HO, HaG2, Hl2⟩
  iapply (copied_step m K c _ (true, 1) _ rfl) $$ [HcG1 HO HaG1]
  · isplitr; · iexact HR
    isplitl [HcG1]; · iexact HcG1
    isplitl [HO]; · iexact HO
    iexact HaG1
  iintro ⟨HO, HaG1, Hl1⟩
  ihave Hl0 := (Entails.of_eq (got_pieces m c 0 2 rfl)) $$ Hl0
  ihave Hl1 := (Entails.of_eq (got_pieces m c 1 1 rfl)) $$ Hl1
  ihave Hl2 := (Entails.of_eq (got_pieces m c 2 0 rfl)) $$ Hl2
  icases Hl0 with ⟨Hl00, Hl01, Hl02, Hl03⟩
  icases Hl1 with ⟨Hl10, Hl11, Hl12, Hl13⟩
  icases Hl2 with ⟨Hl20, Hl21, Hl22, Hl23⟩
  -- the read of all the weights, at the piece of the own rows that was kept
  ihave Hbuf := (Entails.of_eq (whole_rows c (piece 3) (gathered m)).symm) $$ [Hp3 Hl03 Hl13 Hl23]
  · isplitl [Hp3]; · iexact Hp3
    isplitl [Hl23]; · iexact Hl23
    isplitl [Hl13]; · iexact Hl13
    iexact Hl03
  iapply (wp_load noVariants (c : Thread nD τ) none Set.univ (m := bufM) (Finset.subset_univ _)) $$ Hbuf; iintro Hbuf
  rw [read_buf]
  -- the result
  iapply (wp_load noVariants (c : Thread nD τ) none Set.univ (m := Memref.whole cc0_stg4_0) (Finset.subset_univ _)) $$ Hout; iintro Hout
  iapply (wp_store noVariants (c : Thread nD τ) none Set.univ (m := Memref.whole cc0_stg4_0)
    (r := Rect.unit (s := S256x256) ![0, 0] S256x256.size inb_S256x256_S256x256_0_0) (Mk := Finset.univ) (Finset.subset_univ _)) $$ Hout; iintro Hout
  rw [write_out]
  -- the own copies have left
  iapply (copied_step m K c _ (false, 1) _ rfl) $$ [HcS1 HO HaS1]
  · isplitr; · iexact HR
    isplitl [HcS1]; · iexact HcS1
    isplitl [HO]; · iexact HO
    iexact HaS1
  iintro ⟨HO, HaS1, Hp1⟩
  iapply (copied_step m K c _ (false, 0) _ rfl) $$ [HcS0 HO HaS0]
  · isplitr; · iexact HR
    isplitl [HcS0]; · iexact HcS0
    isplitl [HO]; · iexact HO
    iexact HaS0
  iintro ⟨HO, HaS0, Hp0⟩
  iapply (copied_step m K c _ (false, 2) _ rfl) $$ [HcS2 HO HaS2]
  · isplitr; · iexact HR
    isplitl [HcS2]; · iexact HcS2
    isplitl [HO]; · iexact HO
    iexact HaS2
  iintro ⟨HO, HaS2, Hp2⟩
  ihave Hp0 := (Entails.of_eq (sent_piece m c 0)) $$ Hp0
  ihave Hp1 := (Entails.of_eq (sent_piece m c 1)) $$ Hp1
  ihave Hp2 := (Entails.of_eq (sent_piece m c 2)) $$ Hp2
  -- the seven cells close
  imod (close_all m K c) $$ [HaB HaS0 HaS1 HaS2 HaG0 HaG1 HaG2] with Hz
  · isplitr; · iexact HR
    rw [over_roles]
    isplitl [HaB]; · iexact HaB
    isplitl [HaS0]; · iexact HaS0
    isplitl [HaS1]; · iexact HaS1
    isplitl [HaS2]; · iexact HaS2
    isplitl [HaG0]; · iexact HaG0
    isplitl [HaG1]; · iexact HaG1
    iexact HaG2
  -- the buffer is whole again
  ihave Hbuf := (Entails.of_eq (whole_rows c (piece 3) (gathered m))) $$ Hbuf
  icases Hbuf with ⟨Hp3, Hl23, Hl13, Hl03⟩
  ihave Hown := (Entails.of_eq (held_pieces c c (gathered m)).symm) $$ [Hp0 Hp1 Hp2 Hp3]
  · isplitl [Hp0]; · iexact Hp0
    isplitl [Hp1]; · iexact Hp1
    isplitl [Hp2]; · iexact Hp2
    iexact Hp3
  ihave Hl0 := (Entails.of_eq (held_pieces c (hop 2 c) (gathered m)).symm) $$ [Hl00 Hl01 Hl02 Hl03]
  · isplitl [Hl00]; · iexact Hl00
    isplitl [Hl01]; · iexact Hl01
    isplitl [Hl02]; · iexact Hl02
    iexact Hl03
  ihave Hl1 := (Entails.of_eq (held_pieces c (hop 1 c) (gathered m)).symm) $$ [Hl10 Hl11 Hl12 Hl13]
  · isplitl [Hl10]; · iexact Hl10
    isplitl [Hl11]; · iexact Hl11
    isplitl [Hl12]; · iexact Hl12
    iexact Hl13
  ihave Hl2 := (Entails.of_eq (held_pieces c (hop 0 c) (gathered m)).symm) $$ [Hl20 Hl21 Hl22 Hl23]
  · isplitl [Hl20]; · iexact Hl20
    isplitl [Hl21]; · iexact Hl21
    isplitl [Hl22]; · iexact Hl22
    iexact Hl23
  ihave Hbuf := (Entails.of_eq (whole_rows c fullShare (gathered m)).symm) $$ [Hown Hl0 Hl1 Hl2]
  · isplitl [Hown]; · iexact Hown
    isplitl [Hl2]; · iexact Hl2
    isplitl [Hl1]; · iexact Hl1
    iexact Hl0
  rw [wp_ret]; imodintro
  iapply Hk
  unfold after stagedOut
  isplitl [Hbuf Hz]
  · isplitl [Hbuf]; · iexact Hbuf
    iexact Hz
  isplitl [HO]; · iexists _; iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  iexists _; isplitr; · (ipureintro; rfl)
  iexact Hout

/-! ## The body obligation -/

/-- The library's body obligation on device `c`: the body runs from what the launch hands over, with the staging buffers
    as the pipeline filled them, to what the launch takes back. -/
theorem body_obligation (c : Dev nD) : BodyObligation (dats (F := F) m 0 c) (defs₀ (F := F)) noVariants () Set.univ := fun t => by
  rw [eq_thePt t]
  rw [bigSep_W0, bigSep_W0]
  simp only [owns_whole]
  show iprop(before m c ∗ (dats m 0 c).owesAt () thePt.castSucc
      ∗ (∃ d, stg c cc0_stg0_0 ((dats m 0 c).before (0 : Fin 5) thePt d)) ∗ (∃ d, stg c cc0_stg1_0 ((dats m 0 c).before (1 : Fin 5) thePt d))
      ∗ (∃ d, stg c cc0_stg2_0 ((dats m 0 c).before (2 : Fin 5) thePt d)) ∗ (∃ d, stg c cc0_stg3_0 ((dats m 0 c).before (3 : Fin 5) thePt d))
      ∗ (∃ d, stg c cc0_stg4_0 ((dats m 0 c).before (4 : Fin 5) thePt d)))
    ⊢ wp frame (wpE (defs₀ (F := F)) noVariants c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        cc0_scratch1 cc0_scratch2)
      (fun _ => iprop(after m c ∗ (dats m 0 c).owesAt () thePt.succ ∗ stagedOut m c))
  unfold before start Dat.owesAt Pipeline.owesWithin
  iintro ⟨⟨⟨⟨%K, Hg⟩, HcB, HcG, Hlev⟩, Hbuf⟩, ⟨%W, -, HO⟩, ⟨%d0, Hx⟩, ⟨%d1, Hr⟩, ⟨%d2, Hi⟩, ⟨%d3, He⟩, ⟨%d4, Hout⟩⟩
  iapply (body_run m K c (fun _ => iprop(after m c ∗ (dats m 0 c).owesAt () thePt.succ ∗ stagedOut m c)) W)
  isplitl [Hg HcB HcG Hlev Hbuf]
  · isplitl [Hg]; · iexact Hg
    isplitl [HcB]; · iexact HcB
    isplitl [HcG]; · iexact HcG
    isplitl [Hlev]; · iexact Hlev
    iexact Hbuf
  isplitl [HO]; · iexact HO
  isplitl [Hx Hr Hi He Hout]
  · unfold stagedIn
    isplitl [Hx]; · iexact Hx
    isplitl [Hr]; · iexact Hr
    isplitl [Hi]; · iexact Hi
    isplitl [He]; · iexact He
    iexists _; iexact Hout
  iintro ⟨HA, ⟨%W', HO⟩, HS⟩
  isplitl [HA]; · iexact HA
  isplitl [HO]
  · unfold Dat.owesAt Pipeline.owesWithin
    iexists W'
    isplitr; · ipureintro; exact fun _ _ => Or.inl trivial
    iexact HO
  iexact HS

end Cert.Gathered

end
-- ==== Proof.Launch.lean ====
/-
# The launch

What the launch of the four devices deals to each of them, and the run of the whole mesh: every execution terminates,
and ends with every window's array at the contents the proof data state and every semaphore at zero.
-/
module

public import proofs.«01_k».proof.Proof.Body
public import Idealize.ShloMosaic.Lib.Pipeline.CollectiveSegs
public import Idealize.ShloMosaic.Lib.Pipeline.ValueKit.Geometry

@[expose] public section

set_option maxRecDepth 16384

noncomputable section

namespace Cert.Gathered

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Us ℕ

variable (m : (ℓ : Loc nD τ sig) → Buf (Elt F) ℓ) (ρ : Dev nD → PrngReg)

/-- The kernel's own six semaphores, the "sent" ones first. -/
def ownSem : Fin 6 → SemLoc sig
  | 0 => .dma (sentS 0) | 1 => .dma (sentS 1) | 2 => .dma (sentS 2)
  | 3 => .dma (gotS 0) | 4 => .dma (gotS 1) | 5 => .dma (gotS 2)

theorem ownSem_facts : Pipeline.OwnSemFacts cfg0.spec ownSem := by decide

theorem share_full (c : Dev nD) (w : Fin cfg0.W) : (dats m 0 c).share w = fullShare := by unfold Dat.share; split <;> rfl

/-! ## Cells and tokens -/

/-- The protocol's cells: seven on every device. -/
def cells : Finset (GSem nD τ sig) := Finset.univ.map ⟨fun cr : Dev nD × Role => cellAt cr.1 cr.2, cellAt_injective⟩

/-- The duty tokens, counted by device, kind (`none` a raise, `false` a copy read out, `true` a copy landed) and partner. -/
def tokOf (x : Dev nD × (Option Bool × Fin 3)) : GSem nD τ sig × ℕ × Fin 3 := match x.2.1 with
  | none => (barCell x.1, 0, x.2.2)
  | some b => (cellAt x.1 (some (b, x.2.2)), 0, 0)
theorem tokOf_injective : Function.Injective tokOf := by
  rintro ⟨c, k, j⟩ ⟨c', k', j'⟩ h
  rcases k with _ | b <;> rcases k' with _ | b'
  · have h1 := cellAt_eq_iff.mp (congrArg Prod.fst h)
    have h2 : j = j' := congrArg (fun x : GSem nD τ sig × ℕ × Fin 3 => x.2.2) h
    exact Prod.ext h1.1 (Prod.ext rfl h2)
  · exact absurd (cellAt_eq_iff.mp (congrArg Prod.fst h)).2 (by simp)
  · exact absurd (cellAt_eq_iff.mp (congrArg Prod.fst h)).2 (by simp)
  · have h1 := cellAt_eq_iff.mp (congrArg Prod.fst h)
    simp only [Option.some.injEq, Prod.mk.injEq] at h1
    exact Prod.ext h1.1 (Prod.ext (congrArg some h1.2.1) h1.2.2)
def tokens : Finset (GSem nD τ sig × ℕ × Fin 3) := Finset.univ.map ⟨tokOf, tokOf_injective⟩

/-- The ghost state minted at launch: the pipeline's, and the protocol's. -/
def minted : Us :=
  (initOf (Pipeline.cells cfgs cellOf_inj) (Pipeline.launchToks cfgs cellOf_inj), initOf cells tokens)

/-- The duty tokens of device `c`'s own cells. -/
def ownToks (c : Dev nD) : sProp 𝕄 :=
  iprop((bigSep Finset.univ fun j : Fin 3 => dutyTok ERnd (barCell c) 0 j)
    ∗ (bigSep Finset.univ fun j : Fin 3 => dutyTok ERnd (sentCell c j) 0 0)
    ∗ (bigSep Finset.univ fun j : Fin 3 => dutyTok ERnd (gotCell c j) 0 0))

/-- What the launch deals device `c` of the minted state. -/
def dealt (c : Dev nD) : sProp 𝕄 :=
  iprop((bigSep Finset.univ fun r : Role => roundState ERnd (plan m) (cellAt c r) 0)
    ∗ (bigSep Finset.univ fun r : Role => atPos ERnd (cellAt c r) 0 ∅ 0)
    ∗ (bigSep Finset.univ fun r : Role => reached ERnd (cellAt c r) 0) ∗ ownToks c)

/-- What device `c` has of it once the cells are shared: the protocol's ghost state, at some names. -/
def shared (c : Dev nD) : sProp 𝕄 := iprop(∃ K, ghost m K c)

theorem fund_all : BI.own (ERnd (initOf cells tokens)) ⊢ (|==> bigSep Finset.univ (dealt m) : sProp 𝕄) := by
  have hX (Φ : GSem nD τ sig → sProp 𝕄) : bigSep cells Φ = bigSep Finset.univ fun c : Dev nD => bigSep Finset.univ fun r : Role => Φ (cellAt c r) := by
    unfold cells; rw [bigSep_map, bigSep_univ_prod]; rfl
  have hT : bigSep tokens (fun x => (dutyTok ERnd x.1 x.2.1 x.2.2 : sProp 𝕄)) = bigSep Finset.univ fun c : Dev nD => ownToks c := by
    unfold tokens; rw [bigSep_map, bigSep_univ_prod]
    refine bigSep_congr fun c _ => ?_
    rw [bigSep_univ_prod, bigSep_univ_eq_bigSepL [none, some false, some true] (by decide) (by decide)]
    rfl
  iintro HX
  imod (Rounds.fund ERnd (plan m) cells tokens) $$ HX with ⟨Hst, Hr, Hat, Htok⟩
  imodintro
  ihave Hst := (Entails.of_eq (hX fun g => roundState ERnd (plan m) g 0)) $$ Hst
  ihave Hat := (Entails.of_eq (hX fun g => atPos ERnd g 0 ∅ 0)) $$ Hat
  ihave Hr := (Entails.of_eq (hX fun g => reached ERnd g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

/-! ## The semaphores -/

omit [FloatOps F] in
theorem ownSems_eq (c : Dev nD) : (Pipeline.ownSems0 (Ix := Unit) (Name := ℕ) (U := Us) (Lvl := ℕ) (Val := Elt F) (τ := τ) ownSem c : sProp 𝕄)
    = iprop(semVal (sentCell c 0) 0 ∗ semVal (sentCell c 1) 0 ∗ semVal (sentCell c 2) 0
      ∗ semVal (gotCell c 0) 0 ∗ semVal (gotCell c 1) 0 ∗ semVal (gotCell c 2) 0) := by
  rw [Pipeline.ownSems0_eq_of_list c ownSem [0, 1, 2, 3, 4, 5] (by decide) (by decide)]; rfl
omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The seven cells' counters are the kernel's own six and the barrier's. -/
theorem sems_eq (c : Dev nD) :
    (bigSep Finset.univ fun r : Role => semVal (cellAt c r) 0 : sProp 𝕄)
      = iprop(unscopedSems0 c ∗ Pipeline.ownSems0 (Ix := Unit) (Name := ℕ) (U := Us) (Lvl := ℕ) (Val := Elt F) (τ := τ) ownSem c) := by
  rw [ownSems_eq, unscopedSems_eq, over_roles]

theorem share_cells (c : Dev nD) :
    iprop(Pipeline.ownSems0 (Ix := Unit) (Name := ℕ) (U := Us) (Lvl := ℕ) (Val := Elt F) (τ := τ) ownSem c ∗ unscopedSems0 c ∗ dealt m c)
      ⊢ |={Set.univ}=> iprop((bigSep Finset.univ fun r : Role => iprop(∃ κ : ℕ, cellInv ERnd (plan m) κ (cellAt c r)))
          ∗ (bigSep Finset.univ fun r : Role => atPos ERnd (cellAt c r) 0 ∅ 0)
          ∗ (bigSep Finset.univ fun r : Role => reached ERnd (cellAt c r) 0) ∗ ownToks c) := by
  unfold dealt
  iintro ⟨Hos, Hus, Hst, Hat, Hr, Htok⟩
  ihave Hv := (Entails.of_eq (sems_eq (F := F) c).symm) $$ [Hos Hus]
  · isplitl [Hus] <;> iassumption
  imod (show iprop((bigSep Finset.univ fun r : Role => semVal (cellAt c r) 0) ∗ bigSep Finset.univ fun r : Role => roundState ERnd (plan m) (cellAt c r) 0)
      ⊢ (|={Set.univ}=> bigSep Finset.univ fun r : Role => iprop(∃ κ : ℕ, cellInv ERnd (plan m) κ (cellAt c r)) : sProp 𝕄) from by
        rw [← bigSep_sep']
        exact (bigSep_mono fun r _ => (Rounds.body_intro ERnd (plan m) (cellAt c r)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The tokens go to the devices that pay -/

/-- Going from a device to its partner `j`, for all devices and partners at once. -/
def towards : Dev nD × Fin 3 ≃ Dev nD × Fin 3 where
  toFun x := (hop x.2 x.1, x.2)
  invFun x := (hop x.2.rev x.1, x.2)
  left_inv x := Prod.ext (hop_back x.2 x.1) rfl
  right_inv x := Prod.ext (hop_forth x.2 x.1) rfl

omit [FloatOps F] in
theorem deal_towards (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (hop j c) j := by
  rw [← bigSep_univ_prod (fun x : Dev nD × Fin 3 => Φ x.1 x.2), bigSep_univ_equiv towards (fun x : Dev nD × Fin 3 => Φ x.1 x.2),
    bigSep_univ_prod]
  rfl

omit [FloatOps F] in
theorem deal_tokens : (bigSep Finset.univ fun c : Dev nD => (ownToks c : sProp 𝕄))
    = bigSep Finset.univ fun c : Dev nD => bigSep Finset.univ fun j : Fin 3 => payToks c j := by
  unfold ownToks payToks
  rw [bigSep_sep', bigSep_sep', deal_towards (fun c j => dutyTok ERnd (barCell c) 0 j), deal_towards (fun c j => dutyTok ERnd (gotCell c j) 0 0),
    ← bigSep_sep', ← bigSep_sep']
  exact bigSep_congr fun c _ => by rw [bigSep_sep', bigSep_sep']

theorem regroup :
    (bigSep Finset.univ fun c : Dev nD => iprop((bigSep Finset.univ fun r : Role => iprop(∃ κ : ℕ, cellInv ERnd (plan m) κ (cellAt c r)))
          ∗ (bigSep Finset.univ fun r : Role => atPos ERnd (cellAt c r) 0 ∅ 0)
          ∗ (bigSep Finset.univ fun r : Role => reached ERnd (cellAt c r) 0) ∗ ownToks c) : sProp 𝕄)
      ⊢ bigSep Finset.univ (shared m) := by
  rw [bigSep_sep', bigSep_sep', bigSep_sep', deal_tokens,
    ← bigSep_univ_prod (fun x : Dev nD × Role => iprop(∃ κ : ℕ, cellInv ERnd (plan m) κ (cellAt x.1 x.2))),
    ← bigSep_univ_prod (fun x : Dev nD × Role => (reached ERnd (cellAt x.1 x.2) 0 : sProp 𝕄))]
  iintro ⟨HI, Hat, #HR, Htok⟩
  ihave HK := (BI.bigSep_exists_pi Finset.univ (fun (x : Dev nD × Role) (κ : ℕ) => (cellInv ERnd (plan m) κ (cellAt x.1 x.2) : sProp 𝕄))) $$ HI
  icases HK with ⟨%K, #HI⟩
  have h1 (c : Dev nD) : iprop(records m K ∗ (bigSep Finset.univ fun r : Role => atPos ERnd (cellAt c r) 0 ∅ 0)
      ∗ bigSep Finset.univ fun j : Fin 3 => payToks c j) ⊢ shared m c := by
    unfold shared ghost; iintro H; iexists K; iexact H
  have h2 : iprop(records m K ∗ bigSep Finset.univ fun c : Dev nD => iprop((bigSep Finset.univ fun r : Role => atPos ERnd (cellAt c r) 0 ∅ 0)
      ∗ bigSep Finset.univ fun j : Fin 3 => payToks c j)) ⊢ bigSep Finset.univ (shared m) :=
    (sep_mono_left (BI.bigSep_of_persistent (Finset.univ : Finset (Dev nD)) (records m K))).trans
      (by rw [← bigSep_sep']; exact bigSep_mono fun c _ => h1 c)
  iapply h2
  isplitr
  · unfold records; isplitl; · iexact HI
    iexact HR
  rw [bigSep_sep']
  isplitl [Hat]; · iexact Hat
  iexact Htok

theorem share_all : (bigSep Finset.univ fun c => iprop(Pipeline.ownSems0 (Ix := Unit) (Name := ℕ) (U := Us) (Lvl := ℕ) (Val := Elt F) (τ := τ) ownSem c
      ∗ unscopedSems0 c ∗ dealt m c) : sProp 𝕄) ⊢ |={Set.univ}=> bigSep Finset.univ (shared m) :=
  ((bigSep_mono fun c _ => share_cells m c).trans (bigSep_fupd _ _)).trans (BI.fupd_mono (regroup m))

/-! ## The credits -/

omit [FloatOps F] in
/-- Device `d` owes device `c`'s barrier cell a unit for each partner index at which `c` is its partner. -/
theorem owed_bar (d c : Dev nD) : owe6 d (barCell c) ()
    = (if d = hop (Fin.rev 2) c then 1 else 0) + (if d = hop (Fin.rev 1) c then 1 else 0) + (if d = hop (Fin.rev 0) c then 1 else 0) := by
  rw [owe6_apply, owe3_apply]
  have h (j : Fin 3) (x : Dev nD) : ¬ barCell c = gotCell x j := fun h => absurd (cellAt_eq_iff.mp h).2 (by simp)
  have h' (j : Fin 3) : (barCell c = barCell (hop j d)) ↔ d = hop j.rev c := by
    rw [cellAt_eq_iff, and_iff_left rfl, eq_comm, hop_eq_iff]
  simp only [if_neg (h _ _), h', zero_add]

omit [FloatOps F] in
/-- Device `d` owes device `c`'s "received" cell `j` a copy's credit if `c` is its partner `j`. -/
theorem owed_got (d c : Dev nD) (j : Fin 3) : owe6 d (gotCell c j) () = if d = hop j.rev c then N else 0 := by
  rw [owe6_apply, owe3_apply]
  have h (x : Dev nD) : ¬ gotCell c j = barCell x := fun h => absurd (cellAt_eq_iff.mp h).2 (by simp)
  have h' (i : Fin 3) : (gotCell c j = gotCell (hop i d) i) ↔ (d = hop j.rev c ∧ j = i) := by
    rw [cellAt_eq_iff]
    constructor
    · rintro ⟨h1, h2⟩; simp only [Option.some.injEq, Prod.mk.injEq, true_and] at h2; subst h2; exact ⟨hop_eq_iff.mp h1.symm, rfl⟩
    · rintro ⟨h1, rfl⟩; exact ⟨(hop_eq_iff.mpr h1).symm, rfl⟩
  simp only [if_neg (h _), h', add_zero]
  fin_cases j <;> simp

omit [FloatOps F] in
theorem launch_bar (c : Dev nD) :
    tallyOn (barCell c) (launchCredit (Pipeline.owing owe6) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

omit [FloatOps F] in
theorem launch_got (c : Dev nD) (j : Fin 3) :
    tallyOn (gotCell c j) (launchCredit (Pipeline.owing owe6) 0 (gotCell c j)) = (tallyAt (gotCell c j) () N : CellTallies nD τ sig Unit) := by
  unfold tallyAt; refine congrArg _ (Finsupp.ext fun u => ?_); cases u
  rw [Pipeline.launchCredit_owing, Finsupp.single_eq_same, Finset.sum_congr rfl fun d _ => owed_got d c j, Finset.sum_ite_eq' Finset.univ _ fun _ => N,
    if_pos (Finset.mem_univ _)]

/-- A cell's semaphore, role by role, as an embedding. -/
def roleEmb : Role ↪ SemLoc sig := ⟨roleSem, roleSem_injective⟩

omit [FloatOps F] in
/-- The launch credits device `c`'s barrier cell with three units and each of its "received" cells with a copy. -/
theorem launch_credits (c : Dev nD) : (Pipeline.launchCred owe6 c : sProp 𝕄)
    ⊢ iprop(cred (tallyAt (barCell c) () 3) ∗ bigSep Finset.univ fun j : Fin 3 => cred (tallyAt (gotCell c j) () N)) := by
  have h : (Pipeline.launchCred owe6 c : sProp 𝕄)
      ⊢ bigSep Finset.univ fun r : Role => cred (tallyOn (cellAt c r) (launchCredit (Pipeline.owing owe6) 0 (cellAt c r))) := by
    unfold Pipeline.launchCred
    exact (BI.bigSep_subset (Finset.subset_univ (Finset.univ.map roleEmb))).trans (Entails.of_eq (bigSep_map _))
  rw [over_partners]
  iintro H
  ihave H := (h.trans (Entails.of_eq (over_roles _))) $$ H
  icases H with ⟨HB, -, -, -, H0, H1, H2⟩
  isplitl [HB]; · iapply (Entails.of_eq (congrArg cred (launch_bar c))); iexact HB
  isplitl [H0]; · iapply (Entails.of_eq (congrArg cred (launch_got c 0))); iexact H0
  isplitl [H1]; · iapply (Entails.of_eq (congrArg cred (launch_got c 1))); iexact H1
  iapply (Entails.of_eq (congrArg cred (launch_got c 2))); iexact H2

/-! ## The launch's side conditions -/

theorem start_intro (c : Dev nD) :
    iprop(Pipeline.unscopedRestP Pipeline.Prefetch.none cfg0.spec c (fun b => m ((c : Thread nD τ).loc b)) ∗ levAts lvCells lv
        ∗ Pipeline.launchCred owe6 c ∗ prngReg c (ρ c) ∗ shared m c)
      ⊢ |={Set.univ}=> iprop(start m c ∗ emp) := by
  iintro ⟨-, Hlev, Hcr, -, HG⟩
  ihave Hc := (launch_credits (F := F) c) $$ Hcr
  icases Hc with ⟨HB, HN⟩
  imodintro
  unfold start shared
  isplitl
  · isplitl [HG]; · iexact HG
    isplitl [HB]; · iexact HB
    isplitl [HN]; · iexact HN
    iexact Hlev
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  iexact Hr

theorem after_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after m c from rfl, scopedRest0_eq]
  unfold after
  rw [sems_eq]
  iintro ⟨Hr, HB, HS⟩
  isplitl [HB]; · iexact HB
  isplitl [HS]; · iexact HS
  iexists (gathered m); iexact Hr

theorem staging_waits (c : Dev nD) : (levAts lvCells lv : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

/-! ## The run -/

/-- The contents of window `w`'s array after the run. -/
def final (c : Dev nD) (w : Fin cfg0.W) : Buf (Elt F) ((cfg0.win w).arr.view.loc (c : Thread nD τ)) := (dats m 0 c).arrAt w cfg0.N

/-- At the mesh of four devices, for any float values, from any memory with zero counters: every weakly fair execution of
    the four kernels terminates, and every final state has each window's array at its stated contents and every semaphore
    counter at zero. -/
theorem run_main : θ_run defs (onTc (τ := τ) (main (F := F))) ⟨m, fun _ => 0, ρ⟩ (fun r =>
    (∀ (c : Dev nD) (w : Fin cfg0.W), r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EPipe defs₀ noVariants m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owe6) (howed₀ := fun _ => rfl) (howedN := fun _ => rfl)
    (L := lvCells) (lv := lv) (hL := lvCells_ne) (hwaits := staging_waits m)
    (G := dealt m) (G' := shared m) (u₀ := minted)
    (hu₀ := by
      unfold minted
      iintro Hu
      ihave H := (ownU_pair _ _) $$ Hu
      icases H with ⟨HP, HX⟩
      imod (fund_all m) $$ HX with HG
      imodintro
      isplitl [HP] <;> iassumption)
    (hglob := share_all m)
    (hA := fun _ _ => rfl) (hpf := fun _ k => k.elim0)
    (X := start m) (Y := fun c => unscopedSems0 c) (Z := fun _ => iprop(emp))
    (hX := start_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays end as they began. -/
theorem final_in (c : Dev nD) (w : Fin cfg0.W) (hw : (cfg0.win w).isOut = false) :
    final m c w = m ((cfg0.win w).arr.view.loc (c : Thread nD τ)) := (dats m 0 c).arrAt_in w hw _

/-! ## The windows' blocks are the whole arrays -/

theorem index_x : ∀ a, win0_0.index (0 : Fin 1) a = 0 := by decide +kernel
theorem index_rw : ∀ a, win0_1.index (0 : Fin 1) a = 0 := by decide +kernel
theorem index_idx : ∀ a, win0_2.index (0 : Fin 1) a = 0 := by decide +kernel
theorem index_ew : ∀ a, win0_3.index (0 : Fin 1) a = 0 := by decide +kernel
theorem index_out : ∀ a, win0_4.index thePt a = 0 := by decide +kernel

omit [FloatOps F] in
theorem xAt_eq (c : Dev nD) : xAt m c = m ((c : Thread nD τ).loc main_arg0) := by
  funext y
  refine congrArg (m ((c : Thread nD τ).loc main_arg0)) (funext fun a => Fin.ext ?_)
  match a with
  | 0 => blk_simp; rw [index_x, Nat.zero_mul, Nat.zero_add]
  | 1 => blk_simp; rw [index_x, Nat.zero_mul, Nat.zero_add]
omit [FloatOps F] in
theorem rwAt_eq (c : Dev nD) : rwAt m c = m ((c : Thread nD τ).loc main_arg1) := by
  funext y
  refine congrArg (m ((c : Thread nD τ).loc main_arg1)) (funext fun a => Fin.ext ?_)
  match a with
  | 0 => blk_simp; rw [index_rw, Nat.zero_mul, Nat.zero_add]
  | 1 => blk_simp; rw [index_rw, Nat.zero_mul, Nat.zero_add]
omit [FloatOps F] in
theorem idxAt_eq (c : Dev nD) : idxAt m c = m ((c : Thread nD τ).loc main_arg2) := by
  funext y
  refine congrArg (m ((c : Thread nD τ).loc main_arg2)) (funext fun a => Fin.ext ?_)
  match a with
  | 0 => blk_simp; rw [index_idx, Nat.zero_mul, Nat.zero_add]
  | 1 => blk_simp; rw [index_idx, Nat.zero_mul, Nat.zero_add]
omit [FloatOps F] in
theorem ewAt_eq (c : Dev nD) : ewAt m c = m ((c : Thread nD τ).loc main_arg3) := by
  funext y
  refine congrArg (m ((c : Thread nD τ).loc main_arg3)) (funext fun a => Fin.ext ?_)
  match a with
  | 0 => blk_simp; rw [index_ew, Nat.zero_mul, Nat.zero_add]
  | 1 => blk_simp; rw [index_ew, Nat.zero_mul, Nat.zero_add]
  | 2 => blk_simp; rw [index_ew, Nat.zero_mul, Nat.zero_add]

/-- The result's array ends holding what the body left in its staging buffer. -/
theorem final_out (c : Dev nD) : final m c (4 : Fin 5) = outAt m c := by
  refine (dats m 0 c).arrAt_eq_of_covers (4 : Fin 5) _ (by decide +kernel) fun t hf y => ?_
  obtain rfl := eq_thePt t
  refine congrArg (outAt m c) (funext fun a => Fin.ext ?_)
  match a with
  | 0 => blk_simp; rw [index_out, Nat.zero_mul, Nat.zero_add]
  | 1 => blk_simp; rw [index_out, Nat.zero_mul, Nat.zero_add]

/-- The run, read at the arguments and the result: on every device the result's array ends holding `outAt`, and the
    arguments what they held; every semaphore counter ends at zero. -/
theorem run_values : θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
      ⟨(h.1 c (4 : Fin 5)).trans (final_out m c), (h.1 c (0 : Fin 5)).trans (final_in m c (0 : Fin 5) rfl),
        (h.1 c (1 : Fin 5)).trans (final_in m c (1 : Fin 5) rfl), (h.1 c (2 : Fin 5)).trans (final_in m c (2 : Fin 5) rfl),
        (h.1 c (3 : Fin 5)).trans (final_in m c (3 : Fin 5) rfl)⟩, h.2⟩) (run_main m ρ)

end Cert.Gathered

end
-- ==== Proof.Mixture.lean ====
/-
# The mathematics of the layer

What one token's output is, over the extended reals: the router's probabilities, the two gates, and the mixture of the two
chosen experts' products, written once as a sum over all the experts' stacked weights and once as the two products.
-/
module

public import Idealize.ShloMosaic.Lib.Pointwise

@[expose] public section

set_option maxRecDepth 16384

noncomputable section

namespace Cert.Mixture

open Idealize.ShloMosaic

/-- The largest of the eight scores. -/
def top (s : Fin 8 → EReal) : EReal := (Finset.univ : Finset (Fin 8)).fold max ⊥ s

/-- The probability the router gives expert `e`: the exponential of its score below the largest, out of the sum of all. -/
def prob (s : Fin 8 → EReal) (e : Fin 8) : EReal :=
  Ideal.div (Ideal.exp (s e - top s)) (∑ e', Ideal.exp (s e' - top s))

/-- The score of an expert: the product of a token's features with a column of the router's weights. -/
def score (x : Fin 128 → EReal) (w : Fin 128 → Fin 8 → EReal) (e : Fin 8) : EReal := ∑ d, x d * w d e

/-- A finite sum of reals, taken among the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Scores of real features and real weights are real. -/
theorem score_real {x : Fin 128 → EReal} {w : Fin 128 → Fin 8 → EReal} (hx : ∀ d, ∃ r : ℝ, x d = r)
    (hw : ∀ d e, ∃ r : ℝ, w d e = r) (e : Fin 8) : ∃ r : ℝ, score x w e = r := by
  choose a ha using hx
  choose b hb using hw
  refine ⟨∑ d, a d * b d e, ?_⟩
  unfold score
  rw [← sum_coe]
  exact Finset.sum_congr rfl fun d _ => by rw [ha, hb, EReal.coe_mul]

/-- The largest of eight real scores is real. -/
theorem top_real {s : Fin 8 → EReal} (hs : ∀ e, ∃ r : ℝ, s e = r) : ∃ r : ℝ, top s = r := by
  have ht : top s = Finset.univ.sup s := rfl
  obtain ⟨e, -, he⟩ := Finset.exists_mem_eq_sup (Finset.univ : Finset (Fin 8)) ⟨0, Finset.mem_univ _⟩ s
  obtain ⟨r, hr⟩ := hs e
  exact ⟨r, by rw [ht, he, hr]⟩

/-- A quotient of two reals, the divisor positive, is the real quotient. -/
theorem div_real (a : ℝ) {b : ℝ} (hb : 0 < b) : Ideal.div (a : EReal) (b : EReal) = ((a / b : ℝ) : EReal) := by
  unfold Ideal.div
  rw [if_neg (by exact_mod_cast hb.ne'), div_eq_mul_inv, EReal.coe_mul, EReal.coe_inv]

/-- Of real scores, every probability is a positive real. -/
theorem prob_real {s : Fin 8 → EReal} (hs : ∀ e, ∃ r : ℝ, s e = r) (e : Fin 8) : ∃ p : ℝ, 0 < p ∧ prob s e = p := by
  obtain ⟨t, ht⟩ := top_real hs
  choose a ha using hs
  have hexp : ∀ e', Ideal.exp (s e' - top s) = ((Real.exp (a e' - t) : ℝ) : EReal) := fun e' => by
    rw [ha, ht, ← EReal.coe_sub]; rfl
  have hpos : 0 < ∑ e', Real.exp (a e' - t) := Finset.sum_pos (fun e' _ => Real.exp_pos _) ⟨e, Finset.mem_univ _⟩
  refine ⟨Real.exp (a e - t) / ∑ e', Real.exp (a e' - t), div_pos (Real.exp_pos _) hpos, ?_⟩
  unfold prob
  rw [hexp, Finset.sum_congr rfl fun e' _ => hexp e', sum_coe, div_real _ hpos]

/-- A nonnegative real factor goes into a sum. -/
theorem mul_sum_real {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (EReal.coe_nonneg.mpr ha) (EReal.coe_ne_top a), ih]

/-- The gate of expert `e` when `e0` and `e1` are chosen with probabilities `p0` and `p1`: the chosen ones' probabilities out
    of the two's sum, an expert chosen twice counting twice, every other expert zero. -/
def gate (p0 p1 : EReal) (e0 e1 e : Fin 8) : EReal :=
  Ideal.div ((if e = e0 then p0 else 0) + (if e = e1 then p1 else 0)) (p0 + p1)

/-- The gate as the sum of its two parts. -/
theorem gate_split {p0 p1 : ℝ} (h0 : 0 < p0) (h1 : 0 < p1) (e0 e1 e : Fin 8) :
    gate p0 p1 e0 e1 e
      = (((if e = e0 then p0 / (p0 + p1) else 0 : ℝ)) : EReal) + ((if e = e1 then p1 / (p0 + p1) else 0 : ℝ) : EReal) := by
  have hs : 0 < p0 + p1 := add_pos h0 h1
  have hn : ∀ (c : Prop) [Decidable c] (p : ℝ), (if c then (p : EReal) else 0) = ((if c then p else 0 : ℝ) : EReal) := by
    intro c _ p; split <;> simp
  unfold gate
  rw [hn, hn, ← EReal.coe_add, ← EReal.coe_add, div_real _ hs, ← EReal.coe_add]
  congr 1
  split <;> split <;> simp [add_div]

/-- **The mixture.** The features scaled by every expert's gate, laid side by side, times all the experts' weights stacked, is
    the two chosen experts' products, each times its normalised gate — whichever the two are, and whatever the weights. -/
theorem mixture {p0 p1 : ℝ} (h0 : 0 < p0) (h1 : 0 < p1) (e0 e1 : Fin 8) (x : Fin 128 → EReal) (w : Fin 8 → Fin 128 → EReal) :
    ∑ e : Fin 8, ∑ d : Fin 128, (gate p0 p1 e0 e1 e * x d) * w e d
      = Ideal.div p0 ((p0 : EReal) + p1) * (∑ d, x d * w e0 d) + Ideal.div p1 ((p0 : EReal) + p1) * (∑ d, x d * w e1 d) := by
  have hs : 0 < p0 + p1 := add_pos h0 h1
  have ha : 0 ≤ p0 / (p0 + p1) := (div_pos h0 hs).le
  have hb : 0 ≤ p1 / (p0 + p1) := (div_pos h1 hs).le
  have ite_nonneg : ∀ (c : Prop) [Decidable c] {q : ℝ}, 0 ≤ q → (0 : ℝ) ≤ if c then q else 0 := by
    intro c _ q hq; split <;> simp [hq]
  rw [← EReal.coe_add, div_real _ hs, div_real _ hs]
  have pick : ∀ (q : ℝ) (e' : Fin 8) (f : Fin 8 → EReal), ∑ e : Fin 8, ((if e = e' then q else 0 : ℝ) : EReal) * f e = (q : EReal) * f e' := by
    intro q e' f
    rw [Finset.sum_eq_single e' (fun e _ he => by rw [if_neg he]; simp) (fun h => absurd (Finset.mem_univ _) h), if_pos rfl]
  rw [← pick _ e0 (fun e => ∑ d, x d * w e d), ← pick _ e1 (fun e => ∑ d, x d * w e d), ← Finset.sum_add_distrib]
  refine Finset.sum_congr rfl fun e _ => ?_
  rw [mul_sum_real _ (ite_nonneg _ ha), mul_sum_real _ (ite_nonneg _ hb), ← Finset.sum_add_distrib]
  refine Finset.sum_congr rfl fun d _ => ?_
  rw [gate_split h0 h1, mul_assoc,
    EReal.right_distrib_of_nonneg (EReal.coe_nonneg.mpr (ite_nonneg _ ha)) (EReal.coe_nonneg.mpr (ite_nonneg _ hb))]

/-- The stacked contraction, its 1024 terms regrouped by expert and feature. -/
theorem sum_stack (f : Fin 1024 → EReal) :
    ∑ k : Fin 1024, f k = ∑ e : Fin 8, ∑ d : Fin 128, f ⟨128 * e.val + d.val, by omega⟩ := by
  rw [← Equiv.sum_comp (finProdFinEquiv (m := 8) (n := 128)) f, Fintype.sum_prod_type]
  exact Finset.sum_congr rfl fun e _ => Finset.sum_congr rfl fun d _ => congrArg f (Fin.ext (Nat.add_comm _ _))

/-- **One entry of one token's output**: the token's features `x`, the router's weights `w`, a column `v` of every expert's
    weights, and the two chosen experts. Each one's product, times its probability out of the two's sum. -/
def output (x : Fin 128 → EReal) (w : Fin 128 → Fin 8 → EReal) (v : Fin 8 → Fin 128 → EReal) (e0 e1 : Fin 8) : EReal :=
  Ideal.div (prob (score x w) e0) (prob (score x w) e0 + prob (score x w) e1) * (∑ d, x d * v e0 d)
    + Ideal.div (prob (score x w) e1) (prob (score x w) e0 + prob (score x w) e1) * (∑ d, x d * v e1 d)

/-- Of real features and real router weights, the stacked product with every expert's gate is that entry. -/
theorem stacked_output {x : Fin 128 → EReal} {w : Fin 128 → Fin 8 → EReal} (hx : ∀ d, ∃ r : ℝ, x d = r)
    (hw : ∀ d e, ∃ r : ℝ, w d e = r) (v : Fin 8 → Fin 128 → EReal) (e0 e1 : Fin 8) :
    ∑ e : Fin 8, ∑ d : Fin 128, (gate (prob (score x w) e0) (prob (score x w) e1) e0 e1 e * x d) * v e d = output x w v e0 e1 := by
  obtain ⟨p0, h0, hp0⟩ := prob_real (score_real hx hw) e0
  obtain ⟨p1, h1, hp1⟩ := prob_real (score_real hx hw) e1
  unfold output
  rw [hp0, hp1]
  exact mixture h0 h1 e0 e1 x v

/-- The word for minus infinity is the least extended real, -/
theorem word_bot : Ideal.ofBits .f32 0xFF800000#32 = ⊥ := by simp [Ideal.ofBits, Ideal.ieee]

/-- and that for plus infinity the greatest. -/
theorem word_top : Ideal.ofBits .bf16 0x7F80#16 = ⊤ := by simp [Ideal.ofBits, Ideal.ieee]

/-- An extended real whose magnitude is below plus infinity is real. -/
theorem real_of_abs_lt {a : EReal} (h : max a (-a) < ⊤) : ∃ r : ℝ, a = r := by
  induction a using EReal.rec with
  | bot => simp at h
  | coe r => exact ⟨r, rfl⟩
  | top => simp at h

/-- A word that is at least 0 and below 8, read signed, is the number of an expert. -/
theorem expert_of_word (b : BitVec 32) (h : IntOp.andi (IntOp.cmpi .sge b 0#32) (IntOp.cmpi .slt b 8#32) = 1#1) :
    ∃ e : Fin 8, b = BitVec.ofNat 32 e.val := by
  have h2 : (0#32).sle b = true ∧ b.slt 8#32 = true := by
    revert h
    simp only [IntOp.cmpi, IntOp.andi]
    cases (0#32).sle b <;> cases b.slt 8#32 <;> decide
  obtain ⟨h0, h8⟩ := h2
  rw [BitVec.sle_iff_toInt_le] at h0
  rw [BitVec.slt_iff_toInt_lt] at h8
  have e0 : (0#32).toInt = 0 := by decide
  have e8 : (8#32).toInt = 8 := by decide
  rw [e0] at h0
  rw [e8] at h8
  have hb := BitVec.toInt_eq_toNat_cond b
  have hl := b.isLt
  have : b.toNat < 8 := by split at hb <;> omega
  exact ⟨⟨b.toNat, this⟩, by simp⟩

/-- Two experts' words agree exactly when the experts do. -/
theorem word_eq (e e' : Fin 8) : IntOp.cmpi .eq (BitVec.ofNat 32 e.val) (BitVec.ofNat 32 e'.val) = if e = e' then 1#1 else 0#1 := by
  revert e e'; decide

/-- An expert's word is not below zero, -/
theorem word_slt (e : Fin 8) : IntOp.cmpi .slt (BitVec.ofNat 32 e.val) 0#32 = 0#1 := by
  revert e; decide

/-- and read signed it is the expert's number. -/
theorem word_toInt (e : Fin 8) : (BitVec.ofNat 32 e.val).toInt.toNat = e.val := by
  revert e; decide

end Cert.Mixture
-- ==== Proof.KernelValue.lean ====
/-
# The kernel at an index

What one device stores, read at a row and a column: the router's probabilities, the two chosen ones, the gates, the stacked
activations, and the one product with the gathered weights.
-/
module

public import proofs.«01_k».proof.Proof.Body
public import proofs.«01_k».proof.Proof.Mixture

@[expose] public section

set_option maxRecDepth 16384

noncomputable section

namespace Cert.Gathered

open Cert.KernelIdeal Cert.KernelIdeal.Gen Cert.Mixture
open Idealize.ShloMosaic Idealize.ShloMosaic.TcCoe

/-- The router's probabilities at an index: the softmax of the token's scores. -/
theorem probs_apply (x : Vec Ideal S256x128 .bf16) (w : Vec Ideal S128x8 .bf16) (t : Fin 256) (e : Fin 8) :
    k0_pay3 (F := Ideal) x w (ix2 t e) = prob (score (fun d => x (ix2 t d)) (fun d e' => w (ix2 d e'))) e := by
  pointwise [k0_pay3, k0_pay2]
  rw [word_bot]
  rfl

/-- A sum over the experts of a table masked to one expert is that expert's entry. -/
theorem masked_sum (p : Fin 8 → EReal) (e : Fin 8) :
    ∑ e' : Fin 8, Scalar.select (IntOp.cmpi .eq (BitVec.ofNat 32 e'.val) (BitVec.ofNat 32 e.val)) (p e') 0 = p e := by
  rw [Finset.sum_eq_single e]
  · rw [word_eq, if_pos rfl]; exact ValueIdx.select_one _ _
  · intro e' _ he; rw [word_eq, if_neg he]; exact ValueIdx.select_zero _ _
  · intro h; exact absurd (Finset.mem_univ _) h

/-- The first chosen expert's probability. -/
theorem first_apply (x : Vec Ideal S256x128 .bf16) (w : Vec Ideal S128x8 .bf16) (i : Vec Ideal S256x2 .i32) (t : Fin 256) (e : Fin 8)
    (he : i (ix2 t 0) = BitVec.ofNat 32 e.val) :
    k0_pay7 (F := Ideal) x w i (ix2 t 0) = prob (score (fun d => x (ix2 t d)) (fun d e' => w (ix2 d e'))) e := by
  pointwise [k0_pay7, k0_pay5, k0_pay4]
  rw [he]
  exact (masked_sum (fun e' => k0_pay3 (F := Ideal) x w (ix2 t e')) e).trans (probs_apply x w t e)

/-- The second chosen expert's probability. -/
theorem second_apply (x : Vec Ideal S256x128 .bf16) (w : Vec Ideal S128x8 .bf16) (i : Vec Ideal S256x2 .i32) (t : Fin 256) (e : Fin 8)
    (he : i (ix2 t 1) = BitVec.ofNat 32 e.val) :
    k0_pay8 (F := Ideal) x w i (ix2 t 0) = prob (score (fun d => x (ix2 t d)) (fun d e' => w (ix2 d e'))) e := by
  pointwise [k0_pay8, k0_pay6, k0_pay4]
  rw [he]
  exact (masked_sum (fun e' => k0_pay3 (F := Ideal) x w (ix2 t e')) e).trans (probs_apply x w t e)

/-- The first one-hot row: one at the chosen expert. -/
theorem hot_first (i : Vec Ideal S256x2 .i32) (t : Fin 256) (e e' : Fin 8) (he : i (ix2 t 0) = BitVec.ofNat 32 e.val) :
    k0_pay5 (F := Ideal) i (ix2 t e') = if e' = e then 1#1 else 0#1 := by
  pointwise [k0_pay5, k0_pay4]
  rw [he, word_eq]

/-- The second one-hot row. -/
theorem hot_second (i : Vec Ideal S256x2 .i32) (t : Fin 256) (e e' : Fin 8) (he : i (ix2 t 1) = BitVec.ofNat 32 e.val) :
    k0_pay6 (F := Ideal) i (ix2 t e') = if e' = e then 1#1 else 0#1 := by
  pointwise [k0_pay6, k0_pay4]
  rw [he, word_eq]

/-- Eight pieces of 128 columns side by side, read at column `128 e + d`: column `d` of piece `e`. -/
theorem stack_piece (g : Fin 8 → EReal) (x : Fin 128 → EReal) (e : Fin 8) (d : Fin 128) (k : ℕ) (hk : k = 128 * e.val + d.val)
    (hlast : k - 128 - 128 - 128 - 128 - 128 - 128 - 128 < 128) :
    (if h : k < 128 then g 0 * x ⟨k, h⟩
      else if h : k - 128 < 128 then g 1 * x ⟨k - 128, h⟩
      else if h : k - 128 - 128 < 128 then g 2 * x ⟨k - 128 - 128, h⟩
      else if h : k - 128 - 128 - 128 < 128 then g 3 * x ⟨k - 128 - 128 - 128, h⟩
      else if h : k - 128 - 128 - 128 - 128 < 128 then g 4 * x ⟨k - 128 - 128 - 128 - 128, h⟩
      else if h : k - 128 - 128 - 128 - 128 - 128 < 128 then g 5 * x ⟨k - 128 - 128 - 128 - 128 - 128, h⟩
      else if h : k - 128 - 128 - 128 - 128 - 128 - 128 < 128 then g 6 * x ⟨k - 128 - 128 - 128 - 128 - 128 - 128, h⟩
      else g 7 * x ⟨k - 128 - 128 - 128 - 128 - 128 - 128 - 128, hlast⟩) = g e * x d := by
  have hd := d.isLt
  have he := e.isLt
  split_ifs
  · exact congrArg₂ (· * ·) (congrArg g (Fin.ext (show 0 = e.val by omega))) (congrArg x (Fin.ext (by simp only []; omega)))
  · exact congrArg₂ (· * ·) (congrArg g (Fin.ext (show 1 = e.val by omega))) (congrArg x (Fin.ext (by simp only []; omega)))
  · exact congrArg₂ (· * ·) (congrArg g (Fin.ext (show 2 = e.val by omega))) (congrArg x (Fin.ext (by simp only []; omega)))
  · exact congrArg₂ (· * ·) (congrArg g (Fin.ext (show 3 = e.val by omega))) (congrArg x (Fin.ext (by simp only []; omega)))
  · exact congrArg₂ (· * ·) (congrArg g (Fin.ext (show 4 = e.val by omega))) (congrArg x (Fin.ext (by simp only []; omega)))
  · exact congrArg₂ (· * ·) (congrArg g (Fin.ext (show 5 = e.val by omega))) (congrArg x (Fin.ext (by simp only []; omega)))
  · exact congrArg₂ (· * ·) (congrArg g (Fin.ext (show 6 = e.val by omega))) (congrArg x (Fin.ext (by simp only []; omega)))
  · exact congrArg₂ (· * ·) (congrArg g (Fin.ext (show 7 = e.val by omega))) (congrArg x (Fin.ext (by simp only []; omega)))

/-- The stacked activations at an index: column `128 e + d` is feature `d` times the gate of expert `e`. -/
theorem stacked_apply (x : Vec Ideal S256x128 .bf16) (a b : IVec S256x8 1) (u v : FVec Ideal S256x1 .f32) (t : Fin 256) (e : Fin 8)
    (d : Fin 128) :
    k0_pay9 (F := Ideal) x a b u v (Scalar.ofBits .f32 0x00000000#32) (ix2 t ⟨128 * e.val + d.val, by omega⟩)
      = Ideal.div (Scalar.select (a (ix2 t e)) (u (ix2 t 0)) 0 + Scalar.select (b (ix2 t e)) (v (ix2 t 0)) 0)
          (u (ix2 t 0) + v (ix2 t 0)) * x (ix2 t d) := by
  generalize hk : (⟨128 * e.val + d.val, by omega⟩ : Fin 1024) = k
  have hk' : k.val = 128 * e.val + d.val := by rw [← hk]
  clear hk
  pointwise [k0_pay9]
  exact stack_piece (fun e => Ideal.div (Scalar.select (a (ix2 t e)) (u (ix2 t 0)) 0 + Scalar.select (b (ix2 t e)) (v (ix2 t 0)) 0)
    (u (ix2 t 0) + v (ix2 t 0))) (fun d => x (ix2 t d)) e d k.val hk' (by omega)

/-- The gathered weights at an index: row `128 e + d` is row `d` of expert `e`, held by device `e / 2`. -/
theorem gathered_apply (m : (ℓ : Loc nD τ sig) → Buf (Elt Ideal) ℓ) (e : Fin 8) (d : Fin 128) (f : Fin 256) :
    gathered (F := Ideal) m (ix2 ⟨128 * e.val + d.val, by omega⟩ f)
      = ewAt m ⟨e.val / 2, by show _ < 4; omega⟩ (ix3 ⟨e.val % 2, by omega⟩ d f) := by
  have ho : ownerOf (ix2 ⟨128 * e.val + d.val, by omega⟩ f) = ⟨e.val / 2, by show _ < 4; omega⟩ :=
    Fin.ext (show (128 * e.val + d.val) / 256 = e.val / 2 by omega)
  have hw : withinOf (ix2 ⟨128 * e.val + d.val, by omega⟩ f) = ix2 ⟨(128 * e.val + d.val) % 256, Nat.mod_lt _ (by decide)⟩ f := by
    funext a
    match a with
    | ⟨0, _⟩ => rfl
    | ⟨1, _⟩ => rfl
  unfold gathered
  rw [ho, hw]
  pointwise [k0_pay1]
  congr 2 <;> apply Fin.ext <;> simp only [] <;> omega

/-- A product over the 1024 stacked columns at an index, its terms regrouped by expert and feature. -/
theorem regrouped (y : FVec Ideal S256x1024 .bf16) (v : Vec Ideal S1024x256 .bf16) (t f : Fin 256) :
    k0_pay10 (F := Ideal) y v (ix2 t f)
      = ∑ e : Fin 8, ∑ d : Fin 128, y (ix2 t ⟨128 * e.val + d.val, by omega⟩) * v (ix2 ⟨128 * e.val + d.val, by omega⟩ f) := by
  pointwise [k0_pay10]
  exact sum_stack _

/-- The device's one product at an index, whatever the stacked weights. -/
theorem product_apply (x : Vec Ideal S256x128 .bf16) (w : Vec Ideal S128x8 .bf16) (i : Vec Ideal S256x2 .i32)
    (v : Vec Ideal S1024x256 .bf16) (t f : Fin 256) (e0 e1 : Fin 8) (h0 : i (ix2 t 0) = BitVec.ofNat 32 e0.val)
    (h1 : i (ix2 t 1) = BitVec.ofNat 32 e1.val) :
    k0_pay10 (F := Ideal) (k0_pay9 (k0_pay2 x) (k0_pay5 i) (k0_pay6 i) (k0_pay7 x w i) (k0_pay8 x w i) (Scalar.ofBits .f32 0x00000000#32)) v (ix2 t f)
      = ∑ e : Fin 8, ∑ d : Fin 128,
          (gate (prob (score (fun d => x (ix2 t d)) (fun d e => w (ix2 d e))) e0)
            (prob (score (fun d => x (ix2 t d)) (fun d e => w (ix2 d e))) e1) e0 e1 e * x (ix2 t d))
            * v (ix2 ⟨128 * e.val + d.val, by omega⟩ f) := by
  rw [regrouped]
  refine Finset.sum_congr rfl fun e _ => Finset.sum_congr rfl fun d _ => congrArg (· * v (ix2 ⟨128 * e.val + d.val, by omega⟩ f)) ?_
  rw [stacked_apply, first_apply _ _ _ _ _ h0, second_apply _ _ _ _ _ h1, hot_first _ _ _ _ h0, hot_second _ _ _ _ h1]
  have hx : k0_pay2 (F := Ideal) x (ix2 t d) = x (ix2 t d) := by pointwise [k0_pay2]
  have hs : ∀ (c : Prop) [Decidable c] (p : EReal), Scalar.select (if c then 1#1 else 0#1) p 0 = if c then p else 0 := by
    intro c _ p
    split
    · exact ValueIdx.select_one _ _
    · exact ValueIdx.select_zero _ _
  rw [hx, hs, hs]
  rfl

/-- **A device's result at an index**: the layer's output for that token of the device and that column, of real features
    and real router weights. -/
theorem outAt_apply (m : (ℓ : Loc nD τ sig) → Buf (Elt Ideal) ℓ) (c : Dev nD) (t f : Fin 256) (e0 e1 : Fin 8)
    (h0 : idxAt m c (ix2 t 0) = BitVec.ofNat 32 e0.val) (h1 : idxAt m c (ix2 t 1) = BitVec.ofNat 32 e1.val)
    (hx : ∀ d, ∃ r : ℝ, @Eq EReal (xAt m c (ix2 t d)) r) (hw : ∀ d e, ∃ r : ℝ, @Eq EReal (rwAt m c (ix2 d e)) r) :
    outAt (F := Ideal) m c (ix2 t f)
      = output (fun d => xAt m c (ix2 t d)) (fun d e => rwAt m c (ix2 d e))
          (fun e d => ewAt m ⟨e.val / 2, by show _ < 4; omega⟩ (ix3 ⟨e.val % 2, by omega⟩ d f)) e0 e1 := by
  refine (product_apply (xAt m c) (rwAt m c) (idxAt m c) (gathered m) t f e0 e1 h0 h1).trans ?_
  refine Eq.trans ?_ (stacked_output hx hw _ e0 e1)
  refine Finset.sum_congr rfl fun e _ => Finset.sum_congr rfl fun d _ => ?_
  rw [gathered_apply]

end Cert.Gathered
-- ==== Proof.ReferenceValue.lean ====
/-
# The reference at an index

The reference's result, written in stages that have names, and each stage read at an index: the router's probabilities, the
two chosen ones, every token's products with its two experts, and the normalised sum.
-/
module

public import proofs.«01_k».proof.Proof.Gen.ReferenceIdeal.Run
public import proofs.«01_k».proof.Proof.Mixture

@[expose] public section

set_option maxRecDepth 16384

noncomputable section

namespace Cert.Plain

open Cert.ReferenceIdeal Cert.ReferenceIdeal.Gen Cert.Mixture
open Idealize.ShloMosaic Idealize.ShloMosaic.TcCoe

/-- The probabilities of all the experts for all the tokens. -/
def probs (x : FVec Ideal S1024x128 .bf16) (w : FVec Ideal S128x8 .bf16) : FVec Ideal S1024x8 .f32 :=
  have s : FVec Ideal S1024x8 .f32 :=
    Host.dotGeneral dot_S1024x128_S128x8_S1024x8_1_0_0_1_n_n none (extf .f32 x bitsLt_bf16_f32) (extf .f32 w bitsLt_bf16_f32)
  have e : FVec Ideal S1024x8 .f32 := Host.exp (subf s (broadcastInDim S1024x8 ![0, 1] bcast_S1024x1_S1024x8_0_1
    (broadcastInDim S1024x1 ![0] bcast_S1024_S1024x1_0
      (Host.reduce FloatOps.maximumf s (constant S_ .f32 0xFF800000#32) reducesTo_S1024x8_S1024_d1 h_S_))))
  Host.divf e (broadcastInDim S1024x8 ![0, 1] bcast_S1024x1_S1024x8_0_1 (broadcastInDim S1024x1 ![0] bcast_S1024_S1024x1_0
    (Host.reduceAdd e (constant S_ .f32 0x00000000#32) reducesTo_S1024x8_S1024_d1 h_S_)))

/-- The chosen experts' numbers, a negative one counted from the end. -/
def wrapped (i : IVec S1024x2 32) : IVec S1024x2 32 :=
  select (cmpi .slt i (broadcastInDim S1024x2 ![] bcast_S_S1024x2 (constantI S_ 32 0#32)))
    (addi i (broadcastInDim S1024x2 ![] bcast_S_S1024x2 (constantI S_ 32 8#32))) i

/-- The two chosen experts' probabilities, token by token. -/
def chosen (x : FVec Ideal S1024x128 .bf16) (w : FVec Ideal S128x8 .bf16) (i : IVec S1024x2 32) : FVec Ideal S1024x2 .f32 :=
  Host.gather gather_S1024x8_S1024x2x1_S1024x2_n_1_0_0_1_2_11 (probs x w) (shapeCast S1024x2x1 (wrapped i) shapeCasts_S1024x2_S1024x2x1)

/-- Every token's products with its two experts' weights. -/
def products (x : FVec Ideal S1024x128 .bf16) (i : IVec S1024x2 32) (ew : FVec Ideal S8x128x256 .bf16) : FVec Ideal S1024x2x256 .f32 :=
  Host.dotGeneral dot_S1024x128_S1024x2x128x256_S1024x2x256_1_2_n_13_0_0 none (extf .f32 x bitsLt_bf16_f32)
    (Host.gather gather_S8x128x256_S1024x2x1_S1024x2x128x256_23_0_n_n_0_2_1128256 (extf .f32 ew bitsLt_bf16_f32)
      (broadcastInDim S1024x2x1 ![0, 1] bcast_S1024x2_S1024x2x1_0_1 (wrapped i)))

/-- The first gather at an index: the token's row, at the number held for it, which lies in the row. -/
theorem take_prob (p : FVec Ideal S1024x8 .f32) (i : IVec S1024x2x1 32) (t : Fin 1024) (j : Fin 2) (e : Fin 8)
    (he : (i (ix3 t j 0)).toInt.toNat = e.val) :
    Host.gather gather_S1024x8_S1024x2x1_S1024x2_n_1_0_0_1_2_11 p i (ix2 t j) = p (ix2 t e) := by
  unfold Host.gather
  refine congrArg p (funext fun a => Fin.ext ?_)
  show gather_S1024x8_S1024x2x1_S1024x2_n_1_0_0_1_2_11.start (ix2 t j) i a
    + gather_S1024x8_S1024x2x1_S1024x2_n_1_0_0_1_2_11.batchCoord (ix2 t j) a
    + gather_S1024x8_S1024x2x1_S1024x2_n_1_0_0_1_2_11.offCoord (ix2 t j) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (⟨0, _⟩ : Fin 2) ∈ gather_S1024x8_S1024x2x1_S1024x2_n_1_0_0_1_2_11.operandBatchingDims from List.mem_singleton.mpr rfl)]
    simp only [Nat.zero_add, Nat.add_zero]
    rfl
  | ⟨1, _⟩ =>
    rw [GatherDims.batchCoord_eq_zero _ _ _ (fun h => by simp [gather_S1024x8_S1024x2x1_S1024x2_n_1_0_0_1_2_11] at h),
      GatherDims.offCoord_eq_zero _ _ _ (fun h => ((GatherDims.mem_sKept _ _).mp h).1 (List.mem_singleton.mpr rfl))]
    unfold GatherDims.start
    rw [dif_pos (show (⟨1, _⟩ : Fin 2) ∈ gather_S1024x8_S1024x2x1_S1024x2_n_1_0_0_1_2_11.startIndexMap from List.mem_singleton.mpr rfl)]
    have hsi : ∀ h, gather_S1024x8_S1024x2x1_S1024x2_n_1_0_0_1_2_11.siIdx (ix2 t j) ⟨List.idxOf (⟨1, by decide⟩ : Fin 2) gather_S1024x8_S1024x2x1_S1024x2_n_1_0_0_1_2_11.startIndexMap, h⟩ = ix3 t j 0 := by
      intro h
      funext b; refine Fin.ext ?_
      match b with
      | ⟨0, _⟩ => rfl
      | ⟨1, _⟩ => rfl
      | ⟨2, _⟩ => rfl
    rw [hsi, he]
    show min e.val 7 = e.val
    omega

/-- The second gather at an index: the whole weights of the expert whose number is held there. -/
theorem take_weights (w : FVec Ideal S8x128x256 .f32) (i : IVec S1024x2x1 32) (t : Fin 1024) (j : Fin 2) (d : Fin 128) (f : Fin 256) (e : Fin 8)
    (he : (i (ix3 t j 0)).toInt.toNat = e.val) :
    Host.gather gather_S8x128x256_S1024x2x1_S1024x2x128x256_23_0_n_n_0_2_1128256 w i (ix4 t j d f) = w (ix3 e d f) := by
  unfold Host.gather
  refine congrArg w (funext fun a => Fin.ext ?_)
  show gather_S8x128x256_S1024x2x1_S1024x2x128x256_23_0_n_n_0_2_1128256.start (ix4 t j d f) i a
    + gather_S8x128x256_S1024x2x1_S1024x2x128x256_23_0_n_n_0_2_1128256.batchCoord (ix4 t j d f) a
    + gather_S8x128x256_S1024x2x1_S1024x2x128x256_23_0_n_n_0_2_1128256.offCoord (ix4 t j d f) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S8x128x256_S1024x2x1_S1024x2x128x256_23_0_n_n_0_2_1128256.startIndexMap from List.mem_singleton.mpr rfl)]
    have hsi : ∀ h, gather_S8x128x256_S1024x2x1_S1024x2x128x256_23_0_n_n_0_2_1128256.siIdx (ix4 t j d f) ⟨List.idxOf (0 : Fin 3) gather_S8x128x256_S1024x2x1_S1024x2x128x256_23_0_n_n_0_2_1128256.startIndexMap, h⟩ = ix3 t j 0 := by
      intro h
      funext b; refine Fin.ext ?_
      match b with
      | ⟨0, _⟩ => rfl
      | ⟨1, _⟩ => rfl
      | ⟨2, _⟩ => rfl
    rw [hsi, he]
    show min e.val 7 + 0 + 0 = e.val
    omega
  · unfold GatherDims.start GatherDims.offCoord
    rw [dif_neg (show (1 : Fin 3) ∉ gather_S8x128x256_S1024x2x1_S1024x2x128x256_23_0_n_n_0_2_1128256.startIndexMap by decide),
      dif_pos (show (1 : Fin 3) ∈ gather_S8x128x256_S1024x2x1_S1024x2x128x256_23_0_n_n_0_2_1128256.sKept by decide)]
    simp only [Nat.zero_add]
    rfl
  · unfold GatherDims.start GatherDims.offCoord
    rw [dif_neg (show (2 : Fin 3) ∉ gather_S8x128x256_S1024x2x1_S1024x2x128x256_23_0_n_n_0_2_1128256.startIndexMap by decide),
      dif_pos (show (2 : Fin 3) ∈ gather_S8x128x256_S1024x2x1_S1024x2x128x256_23_0_n_n_0_2_1128256.sKept by decide)]
    simp only [Nat.zero_add]
    rfl

/-- The probabilities at an index: the softmax of the token's scores. -/
theorem probs_apply (x : FVec Ideal S1024x128 .bf16) (w : FVec Ideal S128x8 .bf16) (t : Fin 1024) (e : Fin 8) :
    probs x w (ix2 t e) = prob (score (fun d => x (ix2 t d)) (fun d e' => w (ix2 d e'))) e := by
  pointwise [probs]
  rw [word_bot]
  rfl

/-- The number of an expert is not negative and stays. -/
theorem wrapped_apply (i : IVec S1024x2 32) (t : Fin 1024) (j : Fin 2) (e : Fin 8) (he : i (ix2 t j) = BitVec.ofNat 32 e.val) :
    wrapped i (ix2 t j) = BitVec.ofNat 32 e.val := by
  pointwise [wrapped]
  rw [he, word_slt]
  exact ValueIdx.select_zero _ _

/-- The chosen probability at an index, the chosen expert's number being `e`. -/
theorem chosen_apply (x : FVec Ideal S1024x128 .bf16) (w : FVec Ideal S128x8 .bf16) (i : IVec S1024x2 32) (t : Fin 1024) (j : Fin 2)
    (e : Fin 8) (he : i (ix2 t j) = BitVec.ofNat 32 e.val) :
    chosen x w i (ix2 t j) = prob (score (fun d => x (ix2 t d)) (fun d e' => w (ix2 d e'))) e := by
  unfold chosen
  refine (take_prob (probs x w) _ t j e ?_).trans (probs_apply x w t e)
  pointwise
  rw [wrapped_apply i t j e he, word_toInt]

/-- A token's product with one of its experts, the expert's number being `e`. -/
theorem products_apply (x : FVec Ideal S1024x128 .bf16) (i : IVec S1024x2 32) (ew : FVec Ideal S8x128x256 .bf16) (t : Fin 1024)
    (j : Fin 2) (f : Fin 256) (e : Fin 8) (he : i (ix2 t j) = BitVec.ofNat 32 e.val) :
    products x i ew (ix3 t j f) = ∑ d : Fin 128, x (ix2 t d) * ew (ix3 e d f) := by
  pointwise [products]
  refine Finset.sum_congr rfl fun d _ => congrArg (x (ix2 t d) * ·) ?_
  refine (take_weights _ _ t j d f e ?_).trans rfl
  pointwise
  rw [wrapped_apply i t j e he, word_toInt]

/-- The whole result, from the stages. -/
def result (x : FVec Ideal S1024x128 .bf16) (w : FVec Ideal S128x8 .bf16) (i : IVec S1024x2 32) (ew : FVec Ideal S8x128x256 .bf16) :
    FVec Ideal S1024x256 .f32 :=
  have p := chosen x w i
  have y := products x i ew
  have s := addf (extractStridedSlice S1024x1 ![0, 0] p slices_S1024x2_S1024x1_0_0)
    (extractStridedSlice S1024x1 ![0, 1] p slices_S1024x2_S1024x1_0_1)
  addf (mulf (broadcastInDim S1024x256 ![0, 1] bcast_S1024x1_S1024x256_0_1
      (Host.divf (extractStridedSlice S1024x1 ![0, 0] p slices_S1024x2_S1024x1_0_0) s))
      (shapeCast S1024x256 (extractStridedSlice S1024x1x256 ![0, 0, 0] y slices_S1024x2x256_S1024x1x256_0_0_0) shapeCasts_S1024x1x256_S1024x256))
    (mulf (broadcastInDim S1024x256 ![0, 1] bcast_S1024x1_S1024x256_0_1
      (Host.divf (extractStridedSlice S1024x1 ![0, 1] p slices_S1024x2_S1024x1_0_1) s))
      (shapeCast S1024x256 (extractStridedSlice S1024x1x256 ![0, 1, 0] y slices_S1024x2x256_S1024x1x256_0_1_0) shapeCasts_S1024x1x256_S1024x256))

/-- The reference's run ends with it. -/
theorem run_result (m : (ℓ : Loc nD τ sig) → Buf (Elt Ideal) ℓ) (c : Dev nD) :
    Value.res_main_v35 m c = result (m ((c.tc : Thread nD τ).loc main_arg0)) (m ((c.tc : Thread nD τ).loc main_arg1))
      (m ((c.tc : Thread nD τ).loc main_arg2)) (m ((c.tc : Thread nD τ).loc main_arg3)) := rfl

/-- **The reference at an index**: the layer's output for that token and that column. -/
theorem result_apply (x : FVec Ideal S1024x128 .bf16) (w : FVec Ideal S128x8 .bf16) (i : IVec S1024x2 32) (ew : FVec Ideal S8x128x256 .bf16)
    (t : Fin 1024) (f : Fin 256) (e0 e1 : Fin 8) (h0 : i (ix2 t 0) = BitVec.ofNat 32 e0.val) (h1 : i (ix2 t 1) = BitVec.ofNat 32 e1.val) :
    result x w i ew (ix2 t f)
      = output (fun d => x (ix2 t d)) (fun d e => w (ix2 d e)) (fun e d => ew (ix3 e d f)) e0 e1 := by
  pointwise [result]
  rw [chosen_apply x w i t 0 e0 h0, chosen_apply x w i t 1 e1 h1, products_apply x i ew t 0 f e0 h0, products_apply x i ew t 1 f e1 h1]
  rfl

end Cert.Plain
-- ==== Proof.Agreement.lean ====
/-
# Kernel and reference agree

From the arguments cut over the mesh, each device's result is its block of the reference's result. The precondition says that
features and router weights are finite and that every chosen expert's number is one of the eight.
-/
module

public import proofs.«01_k».proof.Pre_routed_KernelIdeal
public import proofs.«01_k».proof.Pre_routed_ReferenceIdeal
public import proofs.«01_k».proof.Proof.Launch
public import proofs.«01_k».proof.Proof.KernelValue
public import proofs.«01_k».proof.Proof.ReferenceValue

@[expose] public section

set_option maxRecDepth 16384

noncomputable section

namespace Cert.Agreement

open Cert.Mixture Cert.Gathered
open Idealize.ShloMosaic Idealize.ShloMosaic.TcCoe

/-- The shapes the precondition names, at a device's arrays, broadcast as it says. -/
instance pre_kernel : Cert.Pre_routed_KernelIdeal.Facts where
  bcast_S_S256x128 := by decide
  bcast_S_S128x8 := by decide
  bcast_S_S256x2 := by decide

/-- The same at the whole arrays. -/
instance pre_reference : Cert.Pre_routed_ReferenceIdeal.Facts where
  bcast_S_S1024x128 := by decide
  bcast_S_S128x8 := by decide
  bcast_S_S1024x2 := by decide

/-- A comparison of a magnitude with plus infinity that holds makes the number real. -/
theorem real_of_cmp {a : EReal} (h : BitVec.ofBool (decide (max a (-a) < Ideal.ofBits .bf16 0x7F80#16)) = 1#1) : ∃ r : ℝ, a = r := by
  rw [word_top] at h
  refine real_of_abs_lt ?_
  by_contra hn
  rw [decide_eq_false hn] at h
  exact absurd h (by decide)

section Pre

variable (x : FVec Ideal ⟨2, ![256, 128]⟩ .bf16) (w : FVec Ideal ⟨2, ![128, 8]⟩ .bf16) (i : IVec ⟨2, ![256, 2]⟩ 32)
  (ew : FVec Ideal ⟨3, ![2, 128, 256]⟩ .bf16)

/-- The precondition's first part: every feature is real. -/
theorem features_real (h : (Cert.Pre_routed_KernelIdeal.fn (F := Ideal) x w i ew).1 = fun _ => 1#1) (t : Fin 256) (d : Fin 128) :
    ∃ r : ℝ, x (ix2 t d) = r := by
  have h' := congrFun h (ix2 t d)
  pointwise [Cert.Pre_routed_KernelIdeal.fn] at h'
  exact real_of_cmp h'

/-- The second: every router weight is real. -/
theorem router_real (h : (Cert.Pre_routed_KernelIdeal.fn (F := Ideal) x w i ew).2.1 = fun _ => 1#1) (d : Fin 128) (e : Fin 8) :
    ∃ r : ℝ, w (ix2 d e) = r := by
  have h' := congrFun h (ix2 d e)
  pointwise [Cert.Pre_routed_KernelIdeal.fn] at h'
  exact real_of_cmp h'

/-- The third: every chosen number is an expert's. -/
theorem routed_expert (h : (Cert.Pre_routed_KernelIdeal.fn (F := Ideal) x w i ew).2.2 = fun _ => 1#1) (t : Fin 256) (j : Fin 2) :
    ∃ e : Fin 8, i (ix2 t j) = BitVec.ofNat 32 e.val := by
  have h' := congrFun h (ix2 t j)
  pointwise [Cert.Pre_routed_KernelIdeal.fn] at h'
  exact expert_of_word _ h'

end Pre

section Blocks

variable {α : Type}

/-- A block of rows at an index: row `t` of block `c` is row `256 c + t` of the whole. -/
theorem rows_block {n : ℕ} (v : (⟨2, ![1024, n]⟩ : Shape).Idx → α) (h : Layout.Tiles ⟨2, ![256, n]⟩ ⟨2, ![1024, n]⟩ 0 4) (c : Fin 4)
    (t : Fin 256) (f : Fin n) :
    Layout.block ⟨2, ![256, n]⟩ ⟨2, ![1024, n]⟩ 0 4 c v h (ix2 t f) = v (ix2 ⟨256 * c.val + t.val, by omega⟩ f) := by
  rw [Layout.block_apply]
  refine congrArg v (funext fun a => Fin.ext ?_)
  match a with
  | ⟨0, _⟩ => show c.val * 256 + t.val = 256 * c.val + t.val; omega
  | ⟨1, _⟩ => rfl

/-- A block of experts at an index: expert `e` of all is expert `e mod 2` of device `e / 2`. -/
theorem experts_block (v : (⟨3, ![8, 128, 256]⟩ : Shape).Idx → α) (h : Layout.Tiles ⟨3, ![2, 128, 256]⟩ ⟨3, ![8, 128, 256]⟩ 0 4)
    (e : Fin 8) (d : Fin 128) (f : Fin 256) :
    Layout.block ⟨3, ![2, 128, 256]⟩ ⟨3, ![8, 128, 256]⟩ 0 4 ⟨e.val / 2, by omega⟩ v h (ix3 ⟨e.val % 2, by omega⟩ d f) = v (ix3 e d f) := by
  rw [Layout.block_apply]
  refine congrArg v (funext fun a => Fin.ext ?_)
  match a with
  | ⟨0, _⟩ => show e.val / 2 * 2 + e.val % 2 = e.val; omega
  | ⟨1, _⟩ => rfl
  | ⟨2, _⟩ => rfl

end Blocks

open Cert.KernelIdeal in
/-- **Each device's result is its block of the reference's.** -/
theorem device_block (m : (ℓ : Loc nD τ sig) → Buf (Elt Ideal) ℓ) (x : FVec Ideal ⟨2, ![1024, 128]⟩ .bf16) (w : FVec Ideal ⟨2, ![128, 8]⟩ .bf16)
    (i : IVec ⟨2, ![1024, 2]⟩ 32) (ew : FVec Ideal ⟨3, ![8, 128, 256]⟩ .bf16)
    (hx : ∀ c : Dev nD, m ((c.tc : Thread nD τ).loc main_arg0) = Layout.block ⟨2, ![256, 128]⟩ ⟨2, ![1024, 128]⟩ 0 4 c x)
    (hw : ∀ c : Dev nD, m ((c.tc : Thread nD τ).loc main_arg1) = w)
    (hi : ∀ c : Dev nD, m ((c.tc : Thread nD τ).loc main_arg2) = Layout.block ⟨2, ![256, 2]⟩ ⟨2, ![1024, 2]⟩ 0 4 c i)
    (hew : ∀ c : Dev nD, m ((c.tc : Thread nD τ).loc main_arg3) = Layout.block ⟨3, ![2, 128, 256]⟩ ⟨3, ![8, 128, 256]⟩ 0 4 c ew)
    (c : Dev nD)
    (pre : (Cert.Pre_routed_KernelIdeal.fn (F := Ideal) (m ((c.tc : Thread nD τ).loc main_arg0)) (m ((c.tc : Thread nD τ).loc main_arg1))
        (m ((c.tc : Thread nD τ).loc main_arg2)) (m ((c.tc : Thread nD τ).loc main_arg3))).1 = (fun _ => 1#1)
      ∧ (Cert.Pre_routed_KernelIdeal.fn (F := Ideal) (m ((c.tc : Thread nD τ).loc main_arg0)) (m ((c.tc : Thread nD τ).loc main_arg1))
        (m ((c.tc : Thread nD τ).loc main_arg2)) (m ((c.tc : Thread nD τ).loc main_arg3))).2.1 = (fun _ => 1#1)
      ∧ (Cert.Pre_routed_KernelIdeal.fn (F := Ideal) (m ((c.tc : Thread nD τ).loc main_arg0)) (m ((c.tc : Thread nD τ).loc main_arg1))
        (m ((c.tc : Thread nD τ).loc main_arg2)) (m ((c.tc : Thread nD τ).loc main_arg3))).2.2 = (fun _ => 1#1)) :
    outAt (F := Ideal) m c = Layout.block ⟨2, ![256, 256]⟩ ⟨2, ![1024, 256]⟩ 0 4 c (Cert.Plain.result x w i ew) := by
  obtain ⟨px, pw, pi⟩ := pre
  have ex : ∀ (t : Fin 256) (d : Fin 128), xAt m c (ix2 t d) = x (ix2 ⟨256 * c.val + t.val, by have := c.isLt; change c.val < 4 at this; omega⟩ d) :=
    fun t d => (congrFun ((xAt_eq m c).trans (hx c)) (ix2 t d)).trans (rows_block x _ c t d)
  have ei : ∀ (t : Fin 256) (j : Fin 2), idxAt m c (ix2 t j) = i (ix2 ⟨256 * c.val + t.val, by have := c.isLt; change c.val < 4 at this; omega⟩ j) :=
    fun t j => (congrFun ((idxAt_eq m c).trans (hi c)) (ix2 t j)).trans (rows_block i _ c t j)
  have ew' : ∀ (d : Fin 128) (e : Fin 8), rwAt m c (ix2 d e) = w (ix2 d e) := fun d e => congrFun ((rwAt_eq m c).trans (hw c)) (ix2 d e)
  have ee : ∀ (e : Fin 8) (d : Fin 128) (f : Fin 256), ewAt m ⟨e.val / 2, by show _ < 4; omega⟩ (ix3 ⟨e.val % 2, by omega⟩ d f) = ew (ix3 e d f) :=
    fun e d f => (congrFun ((ewAt_eq m _).trans (hew _)) (ix3 ⟨e.val % 2, by omega⟩ d f)).trans (experts_block ew _ e d f)
  funext j
  obtain ⟨t, f, rfl⟩ : ∃ (t f : Fin 256), j = ix2 t f := ⟨j 0, j 1, ValueIdx.eq_ix2 j⟩
  obtain ⟨e0, h0⟩ := routed_expert _ _ _ _ pi t 0
  obtain ⟨e1, h1⟩ := routed_expert _ _ _ _ pi t 1
  have h0' : idxAt m c (ix2 t 0) = BitVec.ofNat 32 e0.val := (congrFun (idxAt_eq m c) _).trans h0
  have h1' : idxAt m c (ix2 t 1) = BitVec.ofNat 32 e1.val := (congrFun (idxAt_eq m c) _).trans h1
  refine (outAt_apply m c t f e0 e1 h0' h1' (fun d => ?_) (fun d e => ?_)).trans ?_
  · rw [xAt_eq m c]; exact features_real _ _ _ _ px t d
  · rw [rwAt_eq m c]; exact router_real _ _ _ _ pw d e
  · refine Eq.trans ?_ (rows_block (Cert.Plain.result x w i ew) _ c t f).symm
    rw [Cert.Plain.result_apply x w i ew _ f e0 e1 ((ei t 0).symm.trans h0') ((ei t 1).symm.trans h1')]
    simp only [ex, ew', ee]

end Cert.Agreement
-- ==== Proof.lean ====
/-
# The claims

The kernel runs, at the machine's floating point and over the extended reals, and leaves its arguments and every semaphore as it
found them; so does the reference; and each device's result is its block of the reference's, under the precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Agreement
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel as written and the kernel as read over the extended reals are one text: they have the same body, -/
theorem same_body : Cert.Kernel.defs₀ (F := Bits) = Cert.KernelIdeal.defs₀ (F := Bits) := by
  funext k l a
  match k with
  | .tc =>
    match l, a with
    | ⟨0, _⟩, (_, _) => rfl
    | ⟨_ + 1, h⟩, _ => exact absurd h (Nat.not_lt.2 (Nat.le_add_left _ _))
  | .scScalar _ => rfl
  | .scVector _ _ => rfl

/-- and so the same table of bodies and pipelines. -/
theorem same_defs : Cert.Kernel.defs (F := Bits) = Cert.KernelIdeal.defs (F := Bits) :=
  congrArg (Pipeline.defs Cert.KernelIdeal.pcfgs) same_body

/-- The kernel as written, at the machine's floating point, runs and leaves arguments and semaphores as they were. -/
theorem frame_kernel : Cert.quiescent_Kernel := by
  intro m ρ _
  rw [same_defs]
  exact (θ_run Cert.KernelIdeal.defs _ _).mono (fun _ h => ⟨fun c => (h.1 c).2, h.2⟩) (Cert.Gathered.run_values (F := Bits) m ρ)

/-- The same over the extended reals, -/
theorem frame_ideal : Cert.quiescent_KernelIdeal := fun m ρ _ =>
  (θ_run Cert.KernelIdeal.defs _ _).mono (fun _ h => ⟨fun c => (h.1 c).2, h.2⟩) (Cert.Gathered.run_values (F := Ideal) m ρ)

/-- and so under the precondition. -/
theorem frame_ideal_routed : Cert.quiescent_KernelIdeal_pre_routed_KernelIdeal := fun m ρ _ =>
  (θ_run Cert.KernelIdeal.defs _ _).mono (fun _ h => ⟨fun c => (h.1 c).2, h.2⟩) (Cert.Gathered.run_values (F := Ideal) m ρ)

/-- The reference, which has no semaphore, runs and leaves its arguments as they were, -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- and so under the precondition. -/
theorem frame_reference_routed : Cert.quiescent_ReferenceIdeal_pre_routed_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Under the precondition each device's result is its block of the reference's result. -/
theorem blocks_agree : Cert.algebraic_KernelIdeal_ReferenceIdeal_pre_routed_KernelIdeal := fun m ρ m' ρ' pre h =>
  ⟨Cert.ReferenceIdeal.Value.res_main_v35 m' 0,
    (θ_run Cert.KernelIdeal.defs _ _).mono
      (fun _ hr c => ⟨((hr.1 c).1.trans (Cert.Agreement.device_block m _ _ _ _ (fun c => (h c).1) (fun c => (h c).2.1)
          (fun c => (h c).2.2.1) (fun c => (h c).2.2.2) c (pre c))).trans
            (congrArg (Layout.block ⟨2, ![256, 256]⟩ ⟨2, ![1024, 256]⟩ 0 4 c) (Cert.Plain.run_result m' 0).symm), (hr.1 c).2⟩)
      (Cert.Gathered.run_values (F := Ideal) m ρ),
    (θ_run Cert.ReferenceIdeal.defs _ _).mono (fun _ hr => hr 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts, Cert.Agreement.pre_kernel, Cert.Agreement.pre_reference,
    frame_kernel, frame_ideal, frame_ideal_routed, frame_reference, frame_reference_routed, trivial, blocks_agree⟩

end Cert.Proof

end
